-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv49" .f32 0x3CA72F05#32 ((1 / 49 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_cst)) (v2 : (c : Dev Cert.KernelIdeal.nD) → Buf (Elt Ideal) ((c.tc : Thread Cert.KernelIdeal.nD Cert.KernelIdeal.τ).loc Cert.KernelIdeal.main_v4_1)) (v3 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_cst) = v1 c
          ∧ r.2.mem ((c.tc : Thread Cert.KernelIdeal.nD Cert.KernelIdeal.τ).loc Cert.KernelIdeal.main_v4_1) = v2 c
          ∧ r.2.mem ((c.tc : Thread Cert.KernelIdeal.nD Cert.KernelIdeal.τ).loc Cert.KernelIdeal.main_v4_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_cst_13) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_v28) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x768x7x7 : Shape := ⟨4, ![1024, 768, 7, 7]⟩
abbrev S1024x768 : Shape := ⟨2, ![1024, 768]⟩
abbrev S1536x4096 : Shape := ⟨2, ![1536, 4096]⟩
abbrev S4096 : Shape := ⟨1, ![4096]⟩
abbrev S4096x16 : Shape := ⟨2, ![4096, 16]⟩
abbrev S_ : Shape := ⟨0, ![]⟩

class Facts : Prop where
  bcast_S_S1024x768x7x7 : S_.BroadcastsInDim S1024x768x7x7 (![] : Fin 0 → Fin S1024x768x7x7.rank)
  reducesTo_S1024x768x7x7_S_d0_1_2_3 : S1024x768x7x7.ReducesTo [0, 1, 2, 3] S_
  h_S_ : 0 < S_.numel
  bcast_S_S1024x768 : S_.BroadcastsInDim S1024x768 (![] : Fin 0 → Fin S1024x768.rank)
  reducesTo_S1024x768_S_d0_1 : S1024x768.ReducesTo [0, 1] S_
  bcast_S_S1536x4096 : S_.BroadcastsInDim S1536x4096 (![] : Fin 0 → Fin S1536x4096.rank)
  reducesTo_S1536x4096_S_d0_1 : S1536x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S1024x768x7x7 .f32) (main_arg1 : FVec F S1024x768 .f32) (main_arg2 : FVec F S1536x4096 .f32) (main_arg3 : FVec F S4096 .f32) (main_arg4 : FVec F S4096x16 .f32) : IVec S_ 1 :=
  let main_v0 : FVec F S1024x768x7x7 .f32 := Host.absf main_arg0
  let main_cst : FVec F S_ .f32 := constant S_ .f32 0x7F800000#32
  let main_v1 : FVec F S1024x768x7x7 .f32 := broadcastInDim S1024x768x7x7 ![] bcast_S_S1024x768x7x7 main_cst
  let main_v2 : IVec S1024x768x7x7 1 := cmpf .olt main_v0 main_v1
  let main_c : IVec S_ 1 := constantI S_ 1 1#1
  let main_v3 : IVec S_ 1 := (fun x v => Host.reduce IntOp.andi x v reducesTo_S1024x768x7x7_S_d0_1_2_3 h_S_) main_v2 main_c
  let main_v4 : FVec F S1024x768 .f32 := Host.absf main_arg1
  let main_cst_0 : FVec F S_ .f32 := constant S_ .f32 0x7F800000#32
  let main_v5 : FVec F S1024x768 .f32 := broadcastInDim S1024x768 ![] bcast_S_S1024x768 main_cst_0
  let main_v6 : IVec S1024x768 1 := cmpf .olt main_v4 main_v5
  let main_c_1 : IVec S_ 1 := constantI S_ 1 1#1
  let main_v7 : IVec S_ 1 := (fun x v => Host.reduce IntOp.andi x v reducesTo_S1024x768_S_d0_1 h_S_) main_v6 main_c_1
  let main_v8 : IVec S_ 1 := andi main_v3 main_v7
  let main_v9 : FVec F S1536x4096 .f32 := Host.absf main_arg2
  let main_cst_2 : FVec F S_ .f32 := constant S_ .f32 0x7F800000#32
  let main_v10 : FVec F S1536x4096 .f32 := broadcastInDim S1536x4096 ![] bcast_S_S1536x4096 main_cst_2
  let main_v11 : IVec S1536x4096 1 := cmpf .olt main_v9 main_v10
  let main_c_3 : IVec S_ 1 := constantI S_ 1 1#1
  let main_v12 : IVec S_ 1 := (fun x v => Host.reduce IntOp.andi x v reducesTo_S1536x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S1024x768x7x7 : Shape := ⟨4, ![1024, 768, 7, 7]⟩
abbrev S1024x768 : Shape := ⟨2, ![1024, 768]⟩
abbrev S1536x4096 : Shape := ⟨2, ![1536, 4096]⟩
abbrev S4096 : Shape := ⟨1, ![4096]⟩
abbrev S4096x16 : Shape := ⟨2, ![4096, 16]⟩
abbrev S786432x49 : Shape := ⟨2, ![786432, 49]⟩
abbrev S786432x1 : Shape := ⟨2, ![786432, 1]⟩
abbrev S8192x49 : Shape := ⟨2, ![8192, 49]⟩
abbrev S8192x1 : Shape := ⟨2, ![8192, 1]⟩
abbrev S49x1 : Shape := ⟨2, ![49, 1]⟩
abbrev S1x4096 : Shape := ⟨2, ![1, 4096]⟩
abbrev S1024x16 : Shape := ⟨2, ![1024, 16]⟩
abbrev S1024x2 : Shape := ⟨2, ![1024, 2]⟩
abbrev S1536x512 : Shape := ⟨2, ![1536, 512]⟩
abbrev S1x512 : Shape := ⟨2, ![1, 512]⟩
abbrev S512x16 : Shape := ⟨2, ![512, 16]⟩
abbrev S768x512 : Shape := ⟨2, ![768, 512]⟩
abbrev S1024x512 : Shape := ⟨2, ![1024, 512]⟩
abbrev S1024 : Shape := ⟨1, ![1024]⟩
abbrev S1024x1 : Shape := ⟨2, ![1024, 1]⟩
abbrev S_ : Shape := ⟨0, ![]⟩

abbrev nBuf : Space → Nat
  | .hbm => 13
  | .vmem => 16
  | .smem => 0
  | _ => 0

abbrev bufTy : (tb : Table) → Fin (tcTables nBuf tb) → BufTy
  | .hbm, ⟨0, _⟩ => ⟨S1024x768x7x7, .f32⟩
  | .hbm, ⟨1, _⟩ => ⟨S1024x768, .f32⟩
  | .hbm, ⟨2, _⟩ => ⟨S1536x4096, .f32⟩
  | .hbm, ⟨3, _⟩ => ⟨S4096, .f32⟩
  | .hbm, ⟨4, _⟩ => ⟨S4096x16, .f32⟩
  | .hbm, ⟨5, _⟩ => ⟨S786432x49, .f32⟩
  | .hbm, ⟨6, _⟩ => ⟨S786432x1, .f32⟩
  | .hbm, ⟨7, _⟩ => ⟨S1024x768, .f32⟩
  | .hbm, ⟨8, _⟩ => ⟨S1x4096, .f32⟩
  | .hbm, ⟨9, _⟩ => ⟨S1024x16, .f32⟩
  | .hbm, ⟨10, _⟩ => ⟨S1024x16, .f32⟩
  | .hbm, ⟨11, _⟩ => ⟨S1024x2, .i32⟩
  | .hbm, ⟨12, _⟩ => ⟨S_, .f32⟩
  | .local _ .vmem, ⟨0, _⟩ => ⟨S8192x49, .f32⟩
  | .local _ .vmem, ⟨1, _⟩ => ⟨S8192x49, .f32⟩
  | .local _ .vmem, ⟨2, _⟩ => ⟨S8192x1, .f32⟩
  | .local _ .vmem, ⟨3, _⟩ => ⟨S8192x1, .f32⟩
  | .local _ .vmem, ⟨4, _⟩ => ⟨S1024x768, .f32⟩
  | .local _ .vmem, ⟨5, _⟩ => ⟨S1024x768, .f32⟩
  | .local _ .vmem, ⟨6, _⟩ => ⟨S1536x512, .f32⟩
  | .local _ .vmem, ⟨7, _⟩ => ⟨S1536x512, .f32⟩
  | .local _ .vmem, ⟨8, _⟩ => ⟨S1x512, .f32⟩
  | .local _ .vmem, ⟨9, _⟩ => ⟨S1x512, .f32⟩
  | .local _ .vmem, ⟨10, _⟩ => ⟨S512x16, .f32⟩
  | .local _ .vmem, ⟨11, _⟩ => ⟨S512x16, .f32⟩
  | .local _ .vmem, ⟨12, _⟩ => ⟨S1024x16, .f32⟩
  | .local _ .vmem, ⟨13, _⟩ => ⟨S1024x16, .f32⟩
  | .local _ .vmem, ⟨14, _⟩ => ⟨S1024x2, .i32⟩
  | .local _ .vmem, ⟨15, _⟩ => ⟨S1024x16, .f32⟩
  | _, _ => ⟨S1024x768x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_cst : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem6_0 : DmaSem sig := 13
abbrev cc1_sem7_0 : DmaSem sig := 14

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def k1_cond3 (i : grid1.Coords) : BitVec 1 :=
  let arg0 : BitVec 32 := BitVec.ofNat 32 (i 0).val
  let c7_i32 : BitVec 32 := 7#32
  let v28 : BitVec 1 := Scalar.cmpi .eq arg0 c7_i32
  let v29 : BitVec 32 := Scalar.extui v28
  let c0_i32_18 : BitVec 32 := 0#32
  let v30 : BitVec 1 := Scalar.cmpi .ne v29 c0_i32_18
  v30

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1536x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x2 .i32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== KernelIdeal.lean ====
variable {F : FTy → Type} [FloatOps F] [Named F]
def κ : String → Option EReal := fun
  | "inv49" => some ((1 / 49 : ℝ) : EReal)
  | _ => none
-- ==== ReferenceIdeal.lean ====
abbrev S1024x768x7x7 : Shape := ⟨4, ![1024, 768, 7, 7]⟩
abbrev S1024x768 : Shape := ⟨2, ![1024, 768]⟩
abbrev S1536x4096 : Shape := ⟨2, ![1536, 4096]⟩
abbrev S4096 : Shape := ⟨1, ![4096]⟩
abbrev S4096x16 : Shape := ⟨2, ![4096, 16]⟩
abbrev S_ : Shape := ⟨0, ![]⟩
abbrev S1024x1536 : Shape := ⟨2, ![1024, 1536]⟩
abbrev S1024x4096 : Shape := ⟨2, ![1024, 4096]⟩
abbrev S1x4096 : Shape := ⟨2, ![1, 4096]⟩
abbrev S1024x16 : Shape := ⟨2, ![1024, 16]⟩
abbrev S1024 : Shape := ⟨1, ![1024]⟩
abbrev S1024x1 : Shape := ⟨2, ![1024, 1]⟩
abbrev S1024x3 : Shape := ⟨2, ![1024, 3]⟩
abbrev S1024x2 : Shape := ⟨2, ![1024, 2]⟩
abbrev S1024x2x1 : Shape := ⟨3, ![1024, 2, 1]⟩
abbrev S1024x2x2 : Shape := ⟨3, ![1024, 2, 2]⟩

abbrev nBuf : Space → Nat
  | .hbm => 81
  | .vmem => 0
  | .smem => 0
  | _ => 0

abbrev bufTy : (tb : Table) → Fin (tcTables nBuf tb) → BufTy
  | .hbm, ⟨0, _⟩ => ⟨S1024x768x7x7, .f32⟩
  | .hbm, ⟨1, _⟩ => ⟨S1024x768, .f32⟩
  | .hbm, ⟨2, _⟩ => ⟨S1536x4096, .f32⟩
  | .hbm, ⟨3, _⟩ => ⟨S4096, .f32⟩
  | .hbm, ⟨4, _⟩ => ⟨S4096x16, .f32⟩
  | .hbm, ⟨5, _⟩ => ⟨S_, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x1536, .f32⟩
  | .hbm, ⟨11, _⟩ => ⟨S1024x4096, .f32⟩
  | .hbm, ⟨12, _⟩ => ⟨S1x4096, .f32⟩
  | .hbm, ⟨13, _⟩ => ⟨S1024x4096, .f32⟩
  | .hbm, ⟨14, _⟩ => ⟨S1024x4096, .f32⟩
  | .hbm, ⟨15, _⟩ => ⟨S_, .f32⟩
  | .hbm, ⟨16, _⟩ => ⟨S1024x4096, .f32⟩
  | .hbm, ⟨17, _⟩ => ⟨S1024x4096, .f32⟩
  | .hbm, ⟨18, _⟩ => ⟨S1024x4096, .f32⟩
  | .hbm, ⟨19, _⟩ => ⟨S_, .f32⟩
  | .hbm, ⟨20, _⟩ => ⟨S1024x4096, .f32⟩
  | .hbm, ⟨21, _⟩ => ⟨S1024x4096, .f32⟩
  | .hbm, ⟨22, _⟩ => ⟨S1024x4096, .f32⟩
  | .hbm, ⟨23, _⟩ => ⟨S1024x4096, .f32⟩
  | .hbm, ⟨24, _⟩ => ⟨S1024x16, .f32⟩
  | .hbm, ⟨25, _⟩ => ⟨S_, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1024x1, .f32⟩
  | .hbm, ⟨31, _⟩ => ⟨S1024x16, .f32⟩
  | .hbm, ⟨32, _⟩ => ⟨S1024x16, .f32⟩
  | .hbm, ⟨33, _⟩ => ⟨S1024x16, .f32⟩
  | .hbm, ⟨34, _⟩ => ⟨S_, .f32⟩
  | .hbm, ⟨35, _⟩ => ⟨S1024, .f32⟩
  | .hbm, ⟨36, _⟩ => ⟨S1024x1, .f32⟩
  | .hbm, ⟨37, _⟩ => ⟨S1024x16, .f32⟩
  | .hbm, ⟨38, _⟩ => ⟨S1024x16, .f32⟩
  | .hbm, ⟨39, _⟩ => ⟨S1024x3, .f32⟩
  | .hbm, ⟨40, _⟩ => ⟨S1024x3, .i32⟩
  | .hbm, ⟨41, _⟩ => ⟨S1024x2, .f32⟩
  | .hbm, ⟨42, _⟩ => ⟨S1024x2, .i32⟩
  | .hbm, ⟨43, _⟩ => ⟨S_, .f32⟩
  | .hbm, ⟨44, _⟩ => ⟨S1024, .f32⟩
  | .hbm, ⟨45, _⟩ => ⟨S_, .f32⟩
  | .hbm, ⟨46, _⟩ => ⟨S1024, .f32⟩
  | .hbm, ⟨47, _⟩ => ⟨S1024, .f32⟩
  | .hbm, ⟨48, _⟩ => ⟨S1024x1, .f32⟩
  | .hbm, ⟨49, _⟩ => ⟨S1024x2, .f32⟩
  | .hbm, ⟨50, _⟩ => ⟨S1024x2, .f32⟩
  | .hbm, ⟨51, _⟩ => ⟨S1024x2, .f32⟩
  | .hbm, ⟨52, _⟩ => ⟨S_, .f32⟩
  | .hbm, ⟨53, _⟩ => ⟨S1024, .f32⟩
  | .hbm, ⟨54, _⟩ => ⟨S1024x1, .f32⟩
  | .hbm, ⟨55, _⟩ => ⟨S1024x2, .f32⟩
  | .hbm, ⟨56, _⟩ => ⟨S1024x2, .f32⟩
  | .hbm, ⟨57, _⟩ => ⟨S_, .f32⟩
  | .hbm, ⟨58, _⟩ => ⟨S1024x16, .f32⟩
  | .hbm, ⟨59, _⟩ => ⟨S1024, .i32⟩
  | .hbm, ⟨60, _⟩ => ⟨S1024x1, .i32⟩
  | .hbm, ⟨61, _⟩ => ⟨S_, .i32⟩
  | .hbm, ⟨62, _⟩ => ⟨S1024x1, .i32⟩
  | .hbm, ⟨63, _⟩ => ⟨S1024x1, .i1⟩
  | .hbm, ⟨64, _⟩ => ⟨S_, .i32⟩
  | .hbm, ⟨65, _⟩ => ⟨S1024x1, .i32⟩
  | .hbm, ⟨66, _⟩ => ⟨S1024x1, .i32⟩
  | .hbm, ⟨67, _⟩ => ⟨S1024x1, .i32⟩
  | .hbm, ⟨68, _⟩ => ⟨S_, .i32⟩
  | .hbm, ⟨69, _⟩ => ⟨S1024x2, .i32⟩
  | .hbm, ⟨70, _⟩ => ⟨S1024x2, .i1⟩
  | .hbm, ⟨71, _⟩ => ⟨S_, .i32⟩
  | .hbm, ⟨72, _⟩ => ⟨S1024x2, .i32⟩
  | .hbm, ⟨73, _⟩ => ⟨S1024x2, .i32⟩
  | .hbm, ⟨74, _⟩ => ⟨S1024x2, .i32⟩
  | .hbm, ⟨75, _⟩ => ⟨S1024x2, .i32⟩
  | .hbm, ⟨76, _⟩ => ⟨S1024x2x1, .i32⟩
  | .hbm, ⟨77, _⟩ => ⟨S1024x2x1, .i32⟩
  | .hbm, ⟨78, _⟩ => ⟨S1024x2x2, .i32⟩
  | .hbm, ⟨79, _⟩ => ⟨S1024x16, .f32⟩
  | .hbm, ⟨80, _⟩ => ⟨S_, .f32⟩
  | _, _ => ⟨S1024x768x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_values : Ref sig .tc := ⟨.hbm, 39, rfl⟩
abbrev main_indices : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c : Ref sig .tc := ⟨.hbm, 61, rfl⟩
abbrev main_v43 : Ref sig .tc := ⟨.hbm, 62, rfl⟩
abbrev main_v44 : Ref sig .tc := ⟨.hbm, 63, rfl⟩
abbrev main_c_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_11 : Ref sig .tc := ⟨.hbm, 68, rfl⟩
abbrev main_v48 : Ref sig .tc := ⟨.hbm, 69, rfl⟩
abbrev main_v49 : Ref sig .tc := ⟨.hbm, 70, rfl⟩
abbrev main_c_12 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩

abbrev nD : Nat := 1
abbrev τ : Topo := Topo.v7x

variable {F : FTy → Type} [FloatOps F]
-- ==== Proof.GateBody.lean ====
/- The second call of the kernel, the gate: what its body does to its buffers at one point of the grid. The hidden units
   come in eight blocks of 512; at the first block the body stores the block's part of the logits in its accumulator, at
   every later one it adds the block's part, and at the last it also writes the three results from the finished logits. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The parts of the buffers the body loads and stores -/

/-- The whole of a block of features. -/
abbrev rFeat : Rect S1024x768 := Rect.unit (s := S1024x768) ![0, 0] S1024x768.size inb_S1024x768_S1024x768_0_0
/-- The rows of a block of the weights that meet the pooled features. -/
abbrev rTop : Rect S1536x512 := Rect.unit (s := S1536x512) ![0, 0] S768x512.size inb_S1536x512_S768x512_0_0
/-- The rows of a block of the weights that meet the other features. -/
abbrev rBot : Rect S1536x512 := Rect.unit (s := S1536x512) ![768, 0] S768x512.size inb_S1536x512_S768x512_768_0
/-- The whole of a block of the bias. -/
abbrev rBias : Rect S1x512 := Rect.unit (s := S1x512) ![0, 0] S1x512.size inb_S1x512_S1x512_0_0
/-- The whole of a block of the gate's weights. -/
abbrev rGate : Rect S512x16 := Rect.unit (s := S512x16) ![0, 0] S512x16.size inb_S512x16_S512x16_0_0
/-- The whole of the logits. -/
abbrev rLog : Rect S1024x16 := Rect.unit (s := S1024x16) ![0, 0] S1024x16.size inb_S1024x16_S1024x16_0_0
/-- The whole of the indices. -/
abbrev rIdx : Rect S1024x2 := Rect.unit (s := S1024x2) ![0, 0] S1024x2.size inb_S1024x2_S1024x2_0_0

/-! ## What the body computes -/

/-- The accumulator after the first block. -/
def accFirst (x0 x1 : Vec F S1024x768 .f32) (x2 : Vec F S1536x512 .f32) (x3 : Vec F S1x512 .f32) (x4 : Vec F S512x16 .f32) :
    Vec F S1024x16 .f32 :=
  View.canon [⟨rLog, k1_pay2 (View.ld x0 rFeat) (View.ld x2 rTop) (View.ld x1 rFeat) (View.ld x2 rBot) (View.ld x3 rBias) (View.ld x4 rGate)⟩]

/-- The accumulator after a later block, from what it held. -/
def accNext (x0 x1 : Vec F S1024x768 .f32) (x2 : Vec F S1536x512 .f32) (x3 : Vec F S1x512 .f32) (x4 : Vec F S512x16 .f32)
    (a : Vec F S1024x16 .f32) : Vec F S1024x16 .f32 :=
  View.canon [⟨rLog, k1_pay3 (View.ld x0 rFeat) (View.ld x2 rTop) (View.ld x1 rFeat) (View.ld x2 rBot) (View.ld x3 rBias) (View.ld x4 rGate)
    (View.ld a rLog)⟩]

/-- The scattered gates, from the finished logits. -/
def gatesOf (l : Vec F S1024x16 .f32) : Vec F S1024x16 .f32 :=
  k1_pay4 (iota .tc S1024x16 32 [1] iota_S1024x16_d1_w32) (k1_pay10 l) (k1_pay13 l) (k1_pay14 l) (Scalar.ofBits .f32 0x00000000#32) (k1_pay15 l)

/-- The two chosen experts of each row, from the finished logits. -/
def idxOf (l : Vec F S1024x16 .f32) : Vec F S1024x2 .i32 := k1_pay5 (k1_pay7 l) (k1_pay10 l)

/-- The gates left, from the accumulator. -/
def gatesLeft (a : Vec F S1024x16 .f32) : Vec F S1024x16 .f32 := View.canon [⟨rLog, gatesOf (View.ld a rLog)⟩]
/-- The probabilities left, from the accumulator. -/
def probsLeft (a : Vec F S1024x16 .f32) : Vec F S1024x16 .f32 := View.canon [⟨rLog, k1_pay11 (View.ld a rLog)⟩]
/-- The indices left, from the accumulator. -/
def idxLeft (a : Vec F S1024x16 .f32) : Vec F S1024x2 .i32 := View.canon [⟨rIdx, idxOf (View.ld a rLog)⟩]

/-- A store of the whole block covers it. -/
theorem log_covers (p : Vec F S1024x16 .f32) (y : S1024x16.Idx) :
    ∃ pc ∈ ([⟨rLog, p⟩] : List (View.Piece (Elt F) S1024x16 .f32)), y ∈ pc.1.set :=
  View.cover_of_tiled [⟨rLog, p⟩] S1024x16.size (by rfl) y
/-- A store of all the indices covers their block. -/
theorem idx_covers (p : Vec F S1024x2 .i32) (y : S1024x2.Idx) :
    ∃ pc ∈ ([⟨rIdx, p⟩] : List (View.Piece (Elt F) S1024x2 .i32)), y ∈ pc.1.set :=
  View.cover_of_tiled [⟨rIdx, p⟩] S1024x2.size (by rfl) y

/-! ## The body's three conditions, by the point -/

/-- The condition under which the body starts the accumulator. -/
abbrev isFirst (i : grid1.Coords) : Prop := (Scalar.cmpi .ne (Scalar.extui (Scalar.cmpi .eq (BitVec.ofNat 32 (i 0).val) 0#32)) 0#32) = 1#1
/-- The condition under which the body adds to the accumulator. -/
abbrev isLater (i : grid1.Coords) : Prop := (Scalar.cmpi .ne (Scalar.extui (Scalar.cmpi .ne (BitVec.ofNat 32 (i 0).val) 0#32)) 0#32) = 1#1
/-- The condition under which the body writes the results. -/
abbrev isLast (i : grid1.Coords) : Prop := k1_cond3 i = 1#1

/-- The accumulator is started at point 0. -/
theorem isFirst_iff (t : Fin cfg1.N) : isFirst (grid1.coords t) ↔ t.val = 0 := by
  have ht : t.val < 8 := Nat.lt_of_lt_of_eq t.isLt N_1
  have e0 : (grid1.coords t 0).val = t.val / 1 % 8 := Pipeline.Grid.coords_val t 0 (by decide) rfl
  simp only [isFirst, e0]
  word_cmp
/-- It is added to at every later point. -/
theorem isLater_iff (t : Fin cfg1.N) : isLater (grid1.coords t) ↔ 1 ≤ t.val := by
  have ht : t.val < 8 := Nat.lt_of_lt_of_eq t.isLt N_1
  have e0 : (grid1.coords t 0).val = t.val / 1 % 8 := Pipeline.Grid.coords_val t 0 (by decide) rfl
  simp only [isLater, e0]
  word_cmp
/-- The results are written at point 7. -/
theorem isLast_iff (t : Fin cfg1.N) : isLast (grid1.coords t) ↔ t.val = 7 := by
  have ht : t.val < 8 := Nat.lt_of_lt_of_eq t.isLt N_1
  have e0 : (grid1.coords t 0).val = t.val / 1 % 8 := Pipeline.Grid.coords_val t 0 (by decide) rfl
  simp only [isLast, k1_cond3, e0]
  word_cmp

/-! ## The body at a point -/

section Body

variable (c : Dev nD) (E : Set ℕ) (i : grid1.Coords)
  (arg1 : Memref sig .tc .vmem S1024x768 .f32) (harg1 : arg1.IsWhole) (arg2 : Memref sig .tc .vmem S1024x768 .f32) (harg2 : arg2.IsWhole)
  (arg3 : Memref sig .tc .vmem S1536x512 .f32) (harg3 : arg3.IsWhole) (arg4 : Memref sig .tc .vmem S1x512 .f32) (harg4 : arg4.IsWhole)
  (arg5 : Memref sig .tc .vmem S512x16 .f32) (harg5 : arg5.IsWhole) (arg6 : Memref sig .tc .vmem S1024x16 .f32) (harg6 : arg6.IsWhole)
  (arg7 : Memref sig .tc .vmem S1024x16 .f32) (harg7 : arg7.IsWhole) (arg8 : Memref sig .tc .vmem S1024x2 .i32) (harg8 : arg8.IsWhole)
  (arg9 : Memref sig .tc .vmem S1024x16 .f32) (harg9 : arg9.IsWhole)
  (x0 x1 : Vec F S1024x768 .f32) (x2 : Vec F S1536x512 .f32) (x3 : Vec F S1x512 .f32) (x4 : Vec F S512x16 .f32)
  (a : Vec F S1024x16 .f32)

/-- The five input blocks, held at their contents. -/
def inputs : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4)

set_option maxHeartbeats 1000000 in
/-- At the first block: the accumulator, whatever it held, ends at the block's part. -/
theorem gate_body_first (h0 : isFirst i) (h1 : ¬isLater i) (h2 : ¬isLast i) (K : PUnit → sProp 𝕄) :
    iprop(inputs c arg1 arg2 arg3 arg4 arg5 x0 x1 x2 x3 x4 ∗ (∃ d, owns (c : Thread nD τ) arg9 fullShare d)
        ∗ (iprop(inputs c arg1 arg2 arg3 arg4 arg5 x0 x1 x2 x3 x4 ∗ owns (c : Thread nD τ) arg9 fullShare (accFirst x0 x1 x2 x3 x4)) -∗ K ⟨⟩))
      ⊢ wp frame (wpE (defs₀ (F := F)) Variants.none c none) E
          (cc1__gate_body i arg1 harg1 arg2 harg2 arg3 harg3 arg4 harg4 arg5 harg5 arg6 harg6 arg7 harg7 arg8 harg8 arg9 harg9) K := by
  simp only [cc1__gate_body_eq_skeleton]; unfold cc1__gate_body_skel
  unfold inputs owns
  iintro ⟨⟨⟨%f0, %hf0, H0⟩, ⟨%f1, %hf1, H1⟩, ⟨%f2, %hf2, H2⟩, ⟨%f3, %hf3, H3⟩, ⟨%f4, %hf4, H4⟩⟩, ⟨%ds, %fs, -, HS⟩, Hk⟩
  subst hf0 hf1 hf2 hf3 hf4
  sl_exec (disch := first | sl_exact h0 | sl_exact h1 | sl_exact h2)
  sl_step
  iapply Hk
  isplitl [H0 H1 H2 H3 H4]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists f4; isplitr; · ipureintro; rfl
    iexact H4
  iexists _; isplitr
  swap; · iexact HS
  ipureintro
  exact View.read_writes_eq_canon _ _ _ (log_covers _)

set_option maxHeartbeats 1000000 in
/-- At a later block that is not the last: the block's part is added to what the accumulator held. -/
theorem gate_body_later (h0 : ¬isFirst i) (h1 : isLater i) (h2 : ¬isLast i) (K : PUnit → sProp 𝕄) :
    iprop(inputs c arg1 arg2 arg3 arg4 arg5 x0 x1 x2 x3 x4 ∗ owns (c : Thread nD τ) arg9 fullShare a
        ∗ (iprop(inputs c arg1 arg2 arg3 arg4 arg5 x0 x1 x2 x3 x4 ∗ owns (c : Thread nD τ) arg9 fullShare (accNext x0 x1 x2 x3 x4 a)) -∗ K ⟨⟩))
      ⊢ wp frame (wpE (defs₀ (F := F)) Variants.none c none) E
          (cc1__gate_body i arg1 harg1 arg2 harg2 arg3 harg3 arg4 harg4 arg5 harg5 arg6 harg6 arg7 harg7 arg8 harg8 arg9 harg9) K := by
  simp only [cc1__gate_body_eq_skeleton]; unfold cc1__gate_body_skel
  unfold inputs owns
  iintro ⟨⟨⟨%f0, %hf0, H0⟩, ⟨%f1, %hf1, H1⟩, ⟨%f2, %hf2, H2⟩, ⟨%f3, %hf3, H3⟩, ⟨%f4, %hf4, H4⟩⟩, ⟨%fs, %hfs, HS⟩, Hk⟩
  subst hf0 hf1 hf2 hf3 hf4 hfs
  sl_exec (disch := first | sl_exact h0 | sl_exact h1 | sl_exact h2)
  sl_step
  iapply Hk
  isplitl [H0 H1 H2 H3 H4]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists f4; isplitr; · ipureintro; rfl
    iexact H4
  iexists _; isplitr
  swap; · iexact HS
  ipureintro
  exact View.read_writes_eq_canon _ _ _ (log_covers _)

set_option maxHeartbeats 2000000 in
/-- At the last block: the block's part is added, and the three results are written from the finished logits. -/
theorem gate_body_last (h0 : ¬isFirst i) (h1 : isLater i) (h2 : isLast i) (K : PUnit → sProp 𝕄) :
    iprop(inputs c arg1 arg2 arg3 arg4 arg5 x0 x1 x2 x3 x4 ∗ owns (c : Thread nD τ) arg9 fullShare a
        ∗ (∃ d, owns (c : Thread nD τ) arg6 fullShare d) ∗ (∃ d, owns (c : Thread nD τ) arg7 fullShare d) ∗ (∃ d, owns (c : Thread nD τ) arg8 fullShare d)
        ∗ (iprop(inputs c arg1 arg2 arg3 arg4 arg5 x0 x1 x2 x3 x4 ∗ owns (c : Thread nD τ) arg9 fullShare (accNext x0 x1 x2 x3 x4 a)
            ∗ owns (c : Thread nD τ) arg6 fullShare (gatesLeft (accNext x0 x1 x2 x3 x4 a))
            ∗ owns (c : Thread nD τ) arg7 fullShare (probsLeft (accNext x0 x1 x2 x3 x4 a))
            ∗ owns (c : Thread nD τ) arg8 fullShare (idxLeft (accNext x0 x1 x2 x3 x4 a))) -∗ K ⟨⟩))
      ⊢ wp frame (wpE (defs₀ (F := F)) Variants.none c none) E
          (cc1__gate_body i arg1 harg1 arg2 harg2 arg3 harg3 arg4 harg4 arg5 harg5 arg6 harg6 arg7 harg7 arg8 harg8 arg9 harg9) K := by
  simp only [cc1__gate_body_eq_skeleton]; unfold cc1__gate_body_skel
  simp only [k1_part1_eq_skeleton]
  unfold inputs owns
  iintro ⟨⟨⟨%f0, %hf0, H0⟩, ⟨%f1, %hf1, H1⟩, ⟨%f2, %hf2, H2⟩, ⟨%f3, %hf3, H3⟩, ⟨%f4, %hf4, H4⟩⟩, ⟨%fs, %hfs, HS⟩, ⟨%d6, %f6, -, H6⟩, ⟨%d7, %f7, -, H7⟩, ⟨%d8, %f8, -, H8⟩, Hk⟩
  subst hf0 hf1 hf2 hf3 hf4 hfs
  sl_exec (disch := first | sl_exact h0 | sl_exact h1 | sl_exact h2)
  sl_step
  iapply Hk
  isplitl [H0 H1 H2 H3 H4]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists f4; isplitr; · ipureintro; rfl
    iexact H4
  isplitl [HS]
  · iexists _; isplitr
    swap; · iexact HS
    ipureintro
    exact View.read_writes_eq_canon _ _ _ (log_covers _)
  isplitl [H6]
  · iexists _; isplitr
    swap; · iexact H6
    ipureintro
    refine (View.read_writes_eq_canon _ _ _ (log_covers _)).trans ?_
    delta gate_body_last.sl.r_1 gate_body_last.sl.r_2 gate_body_last.sl.r_3 gate_body_last.sl.r_4 gate_body_last.sl.v32 gate_body_last.sl.cst_33 gate_body_last.sl.v31 gate_body_last.sl.HS_1
    rw [View.readCov_eq_canon_ld _ _ _ (log_covers _)]
    rfl
  isplitl [H7]
  · iexists _; isplitr
    swap; · iexact H7
    ipureintro
    refine (View.read_writes_eq_canon _ _ _ (log_covers _)).trans ?_
    delta gate_body_last.sl.v31 gate_body_last.sl.HS_1
    rw [View.readCov_eq_canon_ld _ _ _ (log_covers _)]
    rfl
  iexists _; isplitr
  swap; · iexact H8
  ipureintro
  refine (View.read_writes_eq_canon _ _ _ (idx_covers _)).trans ?_
  delta gate_body_last.sl.r gate_body_last.sl.r_1 gate_body_last.sl.v31 gate_body_last.sl.HS_1
  rw [View.readCov_eq_canon_ld _ _ _ (log_covers _)]
  rfl

end Body

end Cert.KernelIdeal.Moe

end
-- ==== Proof.PoolRegion.lean ====
/- The first call of the kernel, the mean over the 49 positions of a channel: what its body leaves in the block it
   writes, the contents its two windows have at every point of the grid, and that its body does what those contents say.
   Everything here is stated over whatever contents `V` the arrays have when the call begins. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The contents of every buffer when a call begins, core by core. -/
abbrev Contents (F : FTy → Type) : Type := (c : Dev nD) → Valuation τ sig (Elt F)

variable (V : Contents F)

/-- The block of window `w` at point `t` of the first call, read off the array as the call finds it. -/
def poolBlk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The whole of an input block. -/
abbrev poolIn : Rect S8192x49 := Rect.unit (s := S8192x49) ![0, 0] S8192x49.size inb_S8192x49_S8192x49_0_0
/-- The whole of an output block. -/
abbrev poolOut : Rect S8192x1 := Rect.unit (s := S8192x1) ![0, 0] S8192x1.size inb_S8192x1_S8192x1_0_0

/-- What the body leaves in the output block when the input block holds `x`. -/
def poolLeft (x : Vec F S8192x49 .f32) : Vec F S8192x1 .f32 :=
  View.canon [⟨poolOut, k0_pay1 (View.ld x poolIn)⟩]

/-- The one store of the body covers the block. -/
theorem pool_covers (p : Vec F S8192x1 .f32) (y : S8192x1.Idx) :
    ∃ pc ∈ ([⟨poolOut, p⟩] : List (View.Piece (Elt F) S8192x1 .f32)), y ∈ pc.1.set :=
  View.cover_of_tiled [⟨poolOut, p⟩] S8192x1.size (by rfl) y

set_option maxHeartbeats 1000000 in
/-- The body of the first call, on two whole buffers: the input one is left as it was, the output one at `poolLeft`. -/
theorem pool_body (c : Dev nD) (E : Set ℕ) (i : grid0.Coords) (a : Memref sig .tc .vmem S8192x49 .f32) (ha : a.IsWhole)
    (o : Memref sig .tc .vmem S8192x1 .f32) (ho : o.IsWhole) (x : Vec F S8192x49 .f32) (K : PUnit → sProp 𝕄) :
    iprop(owns (c : Thread nD τ) a fullShare x ∗ (∃ d, owns (c : Thread nD τ) o fullShare d)
        ∗ (iprop(owns (c : Thread nD τ) a fullShare x ∗ owns (c : Thread nD τ) o fullShare (poolLeft x)) -∗ K ⟨⟩))
      ⊢ wp frame (wpE (defs₀ (F := F)) Variants.none c none) E (cc0__pool_body i a ha o ho) K := by
  simp only [cc0__pool_body_eq_skeleton]; unfold cc0__pool_body_skel
  unfold owns
  iintro ⟨⟨%f0, %hf0, Ha⟩, ⟨%d1, %f1, -, Ho⟩, Hk⟩
  subst hf0
  sl_exec
  sl_step
  iapply Hk
  isplitl [Ha]
  · iexists f0; isplitr; · ipureintro; rfl
    iexact Ha
  iexists _; isplitr
  swap; · iexact Ho
  ipureintro
  exact View.read_writes_eq_canon _ _ _ (pool_covers _)

/-- The contents the first call goes through: the arrays as it finds them; after the body the input window still at its
    block, the output window at what the body leaves of it. Nothing is carried from point to point. -/
def poolDat (c : Dev nD) : Dat τ (Elt F) Unit ℕ (UR sig nD τ) ℕ cfg0 c where
  A w := V c (Proc.devRef .tc (Pipeline.arrRef spec0 w))
  after w t := match w with
    | ⟨0, _⟩ => poolBlk V c 0 t
    | ⟨1, _⟩ => poolLeft (poolBlk V c 0 t)
  Φ _ := Pipeline.ΦA spec0 c
  q _ := fullShare
  owed _ := 0

/-- The first call finds the arrays at `V`. -/
theorem poolDat_A (c : Dev nD) (w : Fin cfg0.W) : (poolDat V c).A w = V c (Proc.devRef .tc (Pipeline.arrRef spec0 w)) := by
  dsimp only [poolDat]
/-- After the body the input window still holds its block. -/
theorem poolDat_after0 (c : Dev nD) (t : Fin cfg0.N) : (poolDat V c).after 0 t = poolBlk V c 0 t := by dsimp only [poolDat]
/-- After the body the output window holds what the body leaves. -/
theorem poolDat_after1 (c : Dev nD) (t : Fin cfg0.N) : (poolDat V c).after 1 t = poolLeft (poolBlk V c 0 t) := by dsimp only [poolDat]

/-- The input window holds its block whenever the body runs. -/
theorem poolDat_before0 (c : Dev nD) (t : Fin cfg0.N) (d) : (poolDat V c).before 0 t d = poolBlk V c 0 t :=
  ((poolDat V c).before_in_eq_fetched 0 rfl (fun _ => rfl) (fun _ _ _ => rfl)
      (fun t => by rw [poolDat_after0]; unfold Dat.blockOf poolBlk; rw [poolDat_A]) t d).trans
    (by unfold Dat.fetched Dat.blockOf poolBlk; rw [poolDat_A]; try rfl)

/-- What the body is handed at point `t`, window by window. -/
def poolPre (c : Dev nD) (t : Fin cfg0.N) : sProp 𝕄 :=
  iprop((poolDat V c).Φ t.castSucc ∗ (poolDat V c).owesAt () t.castSucc
    ∗ (∃ d, owns (c : Thread nD τ) (st0_0 t) fullShare ((poolDat V c).before 0 t d))
    ∗ (∃ d, owns (c : Thread nD τ) (st0_1 t) fullShare ((poolDat V c).before 1 t d)))

/-- What it hands back. -/
def poolPost (c : Dev nD) (t : Fin cfg0.N) : sProp 𝕄 :=
  iprop((poolDat V c).Φ t.succ ∗ (poolDat V c).owesAt () t.succ
    ∗ owns (c : Thread nD τ) (st0_0 t) fullShare ((poolDat V c).after 0 t)
    ∗ owns (c : Thread nD τ) (st0_1 t) fullShare ((poolDat V c).after 1 t))

/-- The body at any point takes the one to the other. -/
theorem pool_point (c : Dev nD) (t : Fin cfg0.N) :
    poolPre V c t ⊢ wp frame (wpE (defs₀ (F := F)) Variants.none c none) Set.univ (bodyAt0 t) (fun _ => poolPost V c t) := by
  unfold poolPre poolPost bodyAt0
  simp only [poolDat_before0]
  rw [show (poolDat V c).Φ t.succ = (poolDat V c).Φ t.castSucc from rfl,
    show (poolDat V c).owesAt () t.succ = (poolDat V c).owesAt () t.castSucc from rfl,
    poolDat_after0, poolDat_after1]
  iintro ⟨HΦ, Ho, ⟨%d0, H0⟩, ⟨%d1, H1⟩⟩
  iapply (pool_body c Set.univ (grid0.coords t) _ _ _ _ (poolBlk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The same over the windows taken together, as the call asks for it. -/
theorem pool_obligation (c : Dev nD) : BodyObligation (poolDat (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (pool_point V c t) rfl .rfl fun _ => .rfl

end Cert.KernelIdeal.Moe

end
-- ==== Proof.GateRegion.lean ====
/- The second call of the kernel, the gate: the contents its windows and its accumulator have at every point of the grid,
   and that its body does what those contents say. Stated over whatever contents `V` the arrays have when the call begins. -/
module

public import proofs.«01_k».proof.Proof.GateBody
public import proofs.«01_k».proof.Proof.PoolRegion

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : Contents F)

/-- The block of window `w` at point `t` of the second call, read off the array as the call finds it. -/
def gateBlk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The accumulator after point `n`: the first block's part, then one part more at every point. -/
def accAt (c : Dev nD) : (n : ℕ) → n < cfg1.N → Vec F S1024x16 .f32
  | 0, h => accFirst (gateBlk V c 0 ⟨0, h⟩) (gateBlk V c 1 ⟨0, h⟩) (gateBlk V c 2 ⟨0, h⟩) (gateBlk V c 3 ⟨0, h⟩) (gateBlk V c 4 ⟨0, h⟩)
  | n + 1, h => accNext (gateBlk V c 0 ⟨n + 1, h⟩) (gateBlk V c 1 ⟨n + 1, h⟩) (gateBlk V c 2 ⟨n + 1, h⟩) (gateBlk V c 3 ⟨n + 1, h⟩)
      (gateBlk V c 4 ⟨n + 1, h⟩) (accAt c n (Nat.lt_of_succ_lt h))

/-- After point 0 the accumulator holds the first part. -/
theorem accAt_first (c : Dev nD) (t : Fin cfg1.N) (h : t.val = 0) :
    accAt V c t.val t.isLt = accFirst (gateBlk V c 0 t) (gateBlk V c 1 t) (gateBlk V c 2 t) (gateBlk V c 3 t) (gateBlk V c 4 t) := by
  obtain ⟨n, hn⟩ := t; subst h; rfl
/-- After a later point it holds what the point before left and one part more. -/
theorem accAt_later (c : Dev nD) (t : Fin cfg1.N) (h : t.val ≠ 0) :
    accAt V c t.val t.isLt = accNext (gateBlk V c 0 t) (gateBlk V c 1 t) (gateBlk V c 2 t) (gateBlk V c 3 t) (gateBlk V c 4 t)
      (accAt V c (t.val - 1) (Nat.lt_of_le_of_lt (Nat.sub_le _ _) t.isLt)) := by
  obtain ⟨n, hn⟩ := t
  cases n with
  | zero => exact absurd rfl h
  | succ n => rfl

/-- The accumulator as a buffer. -/
abbrev accM : Memref sig .tc .vmem S1024x16 .f32 := Memref.whole cc1_scratch0

/-- What else the second call holds and does not touch: the first call's staging buffers, at anything, and the core's
    random-number register. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- Before the first point everything the call does not stage is held at anything. -/
theorem rest_eq (c : Dev nD) : (Pipeline.ΦA spec1 c : sProp 𝕄)
    ⊣⊢ iprop(others c ∗ (∃ d, owns (c : Thread nD τ) accM fullShare d) ∗ (∃ r, prngReg c r)) := by
  unfold Pipeline.ΦA others; rw [scopedRest1_eq]; simp only [accM, owns_whole]
  constructor
  · iintro ⟨⟨H0, H1, H2, H3, H4⟩, Hg⟩
    isplitl [H0 H1 H2 H3]
    · isplitl [H0]; · iexact H0
      isplitl [H1]; · iexact H1
      isplitl [H2]; · iexact H2
      iexact H3
    isplitl [H4]; · iexact H4
    iexact Hg
  · iintro ⟨⟨H0, H1, H2, H3⟩, H4, Hg⟩
    isplitl [H0 H1 H2 H3 H4]
    · isplitl [H0]; · iexact H0
      isplitl [H1]; · iexact H1
      isplitl [H2]; · iexact H2
      isplitl [H3]; · iexact H3
      iexact H4
    iexact Hg

/-- What the call carries from point to point: before the first, the accumulator at anything; after point `n`, at what
    that point left. -/
def carried (c : Dev nD) : (n : ℕ) → n ≤ cfg1.N → sProp 𝕄
  | 0, _ => Pipeline.ΦA spec1 c
  | n + 1, h => iprop(others c ∗ owns (c : Thread nD τ) accM fullShare (accAt V c n h) ∗ (∃ r, prngReg c r))

/-- Before the first point the call carries everything at anything. -/
theorem carried_zero (c : Dev nD) (n : ℕ) (h : n ≤ cfg1.N) (hz : n = 0) : carried V c n h = Pipeline.ΦA spec1 c := by
  subst hz; rfl
/-- After point `n` the accumulator is at what that point left. -/
theorem carried_succ (c : Dev nD) (n : ℕ) (h : n < cfg1.N) :
    carried V c (n + 1) h = iprop(others c ∗ owns (c : Thread nD τ) accM fullShare (accAt V c n h) ∗ (∃ r, prngReg c r)) := rfl
/-- The same, counted from the point that comes next. -/
theorem carried_pos (c : Dev nD) (n : ℕ) (h : n ≤ cfg1.N) (hz : n ≠ 0) :
    carried V c n h = iprop(others c ∗ owns (c : Thread nD τ) accM fullShare (accAt V c (n - 1) (by omega)) ∗ (∃ r, prngReg c r)) := by
  cases n with
  | zero => exact absurd rfl hz
  | succ n => rfl

/-- The contents the second call goes through: the inputs stay at their blocks; the three outputs are written at the last
    point only, from the finished accumulator. -/
def gateDat (c : Dev nD) : Dat τ (Elt F) Unit ℕ (UR sig nD τ) ℕ cfg1 c where
  A w := V c (Proc.devRef .tc (Pipeline.arrRef spec1 w))
  after w t := match w with
    | ⟨0, _⟩ => gateBlk V c 0 t
    | ⟨1, _⟩ => gateBlk V c 1 t
    | ⟨2, _⟩ => gateBlk V c 2 t
    | ⟨3, _⟩ => gateBlk V c 3 t
    | ⟨4, _⟩ => gateBlk V c 4 t
    | ⟨5, _⟩ => gatesLeft (accAt V c t.val t.isLt)
    | ⟨6, _⟩ => probsLeft (accAt V c t.val t.isLt)
    | ⟨7, _⟩ => idxLeft (accAt V c t.val t.isLt)
  Φ t := carried V c t.val (Nat.le_of_lt_succ t.isLt)
  q _ := fullShare
  owed _ := 0

/-- The second call finds the arrays at `V`. -/
theorem gateDat_A (c : Dev nD) (w : Fin cfg1.W) : (gateDat V c).A w = V c (Proc.devRef .tc (Pipeline.arrRef spec1 w)) := by
  dsimp only [gateDat]
/-- Before point `t` it carries what the points before left. -/
theorem gateDat_Φ (c : Dev nD) (t : Fin cfg1.N) : (gateDat V c).Φ t.castSucc = carried V c t.val (Nat.le_of_lt t.isLt) := by
  dsimp only [gateDat]; exact Pipeline.Dat.Φ_castSucc (carried V c) t

/-- After the body the window of the first input holds its block. -/
theorem gateDat_after0 (c : Dev nD) (t : Fin cfg1.N) : (gateDat V c).after 0 t = gateBlk V c 0 t := by dsimp only [gateDat]
/-- After the body the window of the second input holds its block. -/
theorem gateDat_after1 (c : Dev nD) (t : Fin cfg1.N) : (gateDat V c).after 1 t = gateBlk V c 1 t := by dsimp only [gateDat]
/-- After the body the window of the third input holds its block. -/
theorem gateDat_after2 (c : Dev nD) (t : Fin cfg1.N) : (gateDat V c).after 2 t = gateBlk V c 2 t := by dsimp only [gateDat]
/-- After the body the window of the fourth input holds its block. -/
theorem gateDat_after3 (c : Dev nD) (t : Fin cfg1.N) : (gateDat V c).after 3 t = gateBlk V c 3 t := by dsimp only [gateDat]
/-- After the body the window of the fifth input holds its block. -/
theorem gateDat_after4 (c : Dev nD) (t : Fin cfg1.N) : (gateDat V c).after 4 t = gateBlk V c 4 t := by dsimp only [gateDat]
/-- After the body the window of the gates holds what the accumulator gives. -/
theorem gateDat_after5 (c : Dev nD) (t : Fin cfg1.N) : (gateDat V c).after 5 t = gatesLeft (accAt V c t.val t.isLt) := by dsimp only [gateDat]
/-- After the body the window of the probabilities holds what the accumulator gives. -/
theorem gateDat_after6 (c : Dev nD) (t : Fin cfg1.N) : (gateDat V c).after 6 t = probsLeft (accAt V c t.val t.isLt) := by dsimp only [gateDat]
/-- After the body the window of the indices holds what the accumulator gives. -/
theorem gateDat_after7 (c : Dev nD) (t : Fin cfg1.N) : (gateDat V c).after 7 t = idxLeft (accAt V c t.val t.isLt) := by dsimp only [gateDat]

/-- The first input window holds its block whenever the body runs, fetched there or not. -/
theorem gateDat_before0 (c : Dev nD) (t : Fin cfg1.N) (d) : (gateDat V c).before 0 t d = gateBlk V c 0 t :=
  ((gateDat V c).before_in_eq_fetched 0 rfl (fun _ => rfl) (fun _ _ _ => rfl)
      (fun t => by rw [gateDat_after0]; unfold Dat.blockOf gateBlk; rw [gateDat_A]) t d).trans
    (by unfold Dat.fetched Dat.blockOf gateBlk; rw [gateDat_A]; try rfl)
/-- So does the second input window, -/
theorem gateDat_before1 (c : Dev nD) (t : Fin cfg1.N) (d) : (gateDat V c).before 1 t d = gateBlk V c 1 t :=
  ((gateDat V c).before_in_eq_fetched 1 rfl (fun _ => rfl) (fun _ _ _ => rfl)
      (fun t => by rw [gateDat_after1]; unfold Dat.blockOf gateBlk; rw [gateDat_A]) t d).trans
    (by unfold Dat.fetched Dat.blockOf gateBlk; rw [gateDat_A]; try rfl)
/-- the third, -/
theorem gateDat_before2 (c : Dev nD) (t : Fin cfg1.N) (d) : (gateDat V c).before 2 t d = gateBlk V c 2 t :=
  ((gateDat V c).before_in_eq_fetched 2 rfl (fun _ => rfl) (fun _ _ _ => rfl)
      (fun t => by rw [gateDat_after2]; unfold Dat.blockOf gateBlk; rw [gateDat_A]) t d).trans
    (by unfold Dat.fetched Dat.blockOf gateBlk; rw [gateDat_A]; try rfl)
/-- the fourth -/
theorem gateDat_before3 (c : Dev nD) (t : Fin cfg1.N) (d) : (gateDat V c).before 3 t d = gateBlk V c 3 t :=
  ((gateDat V c).before_in_eq_fetched 3 rfl (fun _ => rfl) (fun _ _ _ => rfl)
      (fun t => by rw [gateDat_after3]; unfold Dat.blockOf gateBlk; rw [gateDat_A]) t d).trans
    (by unfold Dat.fetched Dat.blockOf gateBlk; rw [gateDat_A]; try rfl)
/-- and the fifth. -/
theorem gateDat_before4 (c : Dev nD) (t : Fin cfg1.N) (d) : (gateDat V c).before 4 t d = gateBlk V c 4 t :=
  ((gateDat V c).before_in_eq_fetched 4 rfl (fun _ => rfl) (fun _ _ _ => rfl)
      (fun t => by rw [gateDat_after4]; unfold Dat.blockOf gateBlk; rw [gateDat_A]) t d).trans
    (by unfold Dat.fetched Dat.blockOf gateBlk; rw [gateDat_A]; try rfl)

/-- What the body is handed at point `t`, window by window. -/
def gatePre (c : Dev nD) (t : Fin cfg1.N) : sProp 𝕄 :=
  iprop((gateDat V c).Φ t.castSucc ∗ (gateDat V c).owesAt () t.castSucc
    ∗ (∃ d, owns (c : Thread nD τ) (st1_0 t) fullShare ((gateDat V c).before 0 t d))
    ∗ (∃ d, owns (c : Thread nD τ) (st1_1 t) fullShare ((gateDat V c).before 1 t d))
    ∗ (∃ d, owns (c : Thread nD τ) (st1_2 t) fullShare ((gateDat V c).before 2 t d))
    ∗ (∃ d, owns (c : Thread nD τ) (st1_3 t) fullShare ((gateDat V c).before 3 t d))
    ∗ (∃ d, owns (c : Thread nD τ) (st1_4 t) fullShare ((gateDat V c).before 4 t d))
    ∗ (∃ d, owns (c : Thread nD τ) (st1_5 t) fullShare ((gateDat V c).before 5 t d))
    ∗ (∃ d, owns (c : Thread nD τ) (st1_6 t) fullShare ((gateDat V c).before 6 t d))
    ∗ (∃ d, owns (c : Thread nD τ) (st1_7 t) fullShare ((gateDat V c).before 7 t d)))

/-- What it hands back. -/
def gatePost (c : Dev nD) (t : Fin cfg1.N) : sProp 𝕄 :=
  iprop((gateDat V c).Φ t.succ ∗ (gateDat V c).owesAt () t.succ
    ∗ owns (c : Thread nD τ) (st1_0 t) fullShare (gateBlk V c 0 t)
    ∗ owns (c : Thread nD τ) (st1_1 t) fullShare (gateBlk V c 1 t)
    ∗ owns (c : Thread nD τ) (st1_2 t) fullShare (gateBlk V c 2 t)
    ∗ owns (c : Thread nD τ) (st1_3 t) fullShare (gateBlk V c 3 t)
    ∗ owns (c : Thread nD τ) (st1_4 t) fullShare (gateBlk V c 4 t)
    ∗ (gateDat V c).leavesExact 5 t
    ∗ (gateDat V c).leavesExact 6 t
    ∗ (gateDat V c).leavesExact 7 t)

/-- The outputs are left alone at every point but the last. -/
theorem idle_of_not_last (t : Fin cfg1.N) (h : ¬isLast (grid1.coords t)) :
    cfg1.idle 5 (grid1.coords t) = true ∧ cfg1.idle 6 (grid1.coords t) = true ∧ cfg1.idle 7 (grid1.coords t) = true := by
  have hb : (!(k1_cond3 (grid1.coords t) == 1#1)) = true := by
    rw [Bool.not_eq_true', beq_eq_false_iff_ne]; exact h
  exact ⟨hb, hb, hb⟩
/-- At the last point they are written. -/
theorem live_of_last (t : Fin cfg1.N) (h : isLast (grid1.coords t)) :
    cfg1.idle 5 (grid1.coords t) = false ∧ cfg1.idle 6 (grid1.coords t) = false ∧ cfg1.idle 7 (grid1.coords t) = false := by
  have hb : (!(k1_cond3 (grid1.coords t) == 1#1)) = false := by
    rw [Bool.not_eq_false', beq_iff_eq]; exact h
  exact ⟨hb, hb, hb⟩

/-- The gates are not written back before the last point. -/
theorem no_flush_5 (t : Fin cfg1.N) (h : ¬t.val = 7) : (cfg1.win 5).flush t = false := by
  have hN : t.val < 8 := lt_of_lt_of_eq t.isLt N_1
  rw [Bool.eq_false_iff]; intro hf; have := (flush1_5 t).mp hf; omega
/-- Nor are the probabilities, -/
theorem no_flush_6 (t : Fin cfg1.N) (h : ¬t.val = 7) : (cfg1.win 6).flush t = false := by
  have hN : t.val < 8 := lt_of_lt_of_eq t.isLt N_1
  rw [Bool.eq_false_iff]; intro hf; have := (flush1_6 t).mp hf; omega
/-- nor the indices. -/
theorem no_flush_7 (t : Fin cfg1.N) (h : ¬t.val = 7) : (cfg1.win 7).flush t = false := by
  have hN : t.val < 8 := lt_of_lt_of_eq t.isLt N_1
  rw [Bool.eq_false_iff]; intro hf; have := (flush1_7 t).mp hf; omega

set_option maxHeartbeats 4000000 in
/-- The body at any point takes the one to the other. -/
theorem gate_point (c : Dev nD) (t : Fin cfg1.N) :
    gatePre V c t ⊢ wp frame (wpE (defs₀ (F := F)) Variants.none c none) Set.univ (bodyAt1 t) (fun _ => gatePost V c t) := by
  unfold gatePre gatePost bodyAt1
  simp only [gateDat_before0, gateDat_before1, gateDat_before2, gateDat_before3, gateDat_before4]
  rw [show (gateDat V c).owesAt () t.succ = (gateDat V c).owesAt () t.castSucc from rfl,
    show (gateDat V c).Φ t.succ = carried V c (t.val + 1) t.isLt from rfl, carried_succ, gateDat_Φ]
  have hN : t.val < 8 := lt_of_lt_of_eq t.isLt N_1
  by_cases hlast : t.val = 7
  · obtain ⟨l5, l6, l7⟩ := live_of_last t ((isLast_iff t).mpr hlast)
    rw [show (gateDat V c).leavesExact 5 t = owns (c : Thread nD τ) (st1_5 t) fullShare ((gateDat V c).after 5 t) from by
        unfold Dat.leavesExact; rw [l5],
      show (gateDat V c).leavesExact 6 t = owns (c : Thread nD τ) (st1_6 t) fullShare ((gateDat V c).after 6 t) from by
        unfold Dat.leavesExact; rw [l6],
      show (gateDat V c).leavesExact 7 t = owns (c : Thread nD τ) (st1_7 t) fullShare ((gateDat V c).after 7 t) from by
        unfold Dat.leavesExact; rw [l7], gateDat_after5, gateDat_after6, gateDat_after7]
    rw [carried_pos V c _ _ (by omega), accAt_later V c t (by omega)]
    iintro ⟨⟨Hot, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (gate_body_last c Set.univ (grid1.coords t) _ _ _ _ _ _ _ _ _ _ _ _ _ _ _ _ _ _ (gateBlk V c 0 t) (gateBlk V c 1 t)
      (gateBlk V c 2 t) (gateBlk V c 3 t) (gateBlk V c 4 t) _ (fun h => by have := (isFirst_iff t).mp h; omega)
      ((isLater_iff t).mpr (by omega)) ((isLast_iff t).mpr hlast) _)
    unfold inputs
    isplitl [H0 H1 H2 H3 H4]
    · isplitl [H0]; · iexact H0
      isplitl [H1]; · iexact H1
      isplitl [H2]; · iexact H2
      isplitl [H3]; · iexact H3
      iexact H4
    isplitl [HS]; · iexact HS
    isplitl [H5]; · iexists _; iexact H5
    isplitl [H6]; · iexists _; iexact H6
    isplitl [H7]; · iexists _; iexact H7
    iintro ⟨⟨H0, H1, H2, H3, H4⟩, HS, H5, H6, H7⟩
    isplitl [Hot HS Hg]
    · isplitl [Hot]; · iexact Hot
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hnl : ¬isLast (grid1.coords t) := fun h => hlast ((isLast_iff t).mp h)
    obtain ⟨l5, l6, l7⟩ := idle_of_not_last t hnl
    rw [(gateDat V c).leavesExact_idle 5 t l5 (no_flush_5 t hlast), (gateDat V c).leavesExact_idle 6 t l6 (no_flush_6 t hlast), (gateDat V c).leavesExact_idle 7 t l7 (no_flush_7 t hlast)]
    by_cases hz : t.val = 0
    · rw [carried_zero V c _ _ hz, accAt_first V c t hz]
      refine (sep_mono (rest_eq c).1 .rfl).trans ?_
      iintro ⟨⟨Hot, HS, Hg⟩, Ho, ⟨%d0, H0⟩, ⟨%d1, H1⟩, ⟨%d2, H2⟩, ⟨%d3, H3⟩, ⟨%d4, H4⟩, H5, H6, H7⟩
      iapply (gate_body_first c Set.univ (grid1.coords t) _ _ _ _ _ _ _ _ _ _ _ _ _ _ _ _ _ _ (gateBlk V c 0 t) (gateBlk V c 1 t)
        (gateBlk V c 2 t) (gateBlk V c 3 t) (gateBlk V c 4 t) ((isFirst_iff t).mpr hz)
        (fun h => by have := (isLater_iff t).mp h; omega) hnl _)
      unfold inputs
      isplitl [H0 H1 H2 H3 H4]
      · isplitl [H0]; · iexact H0
        isplitl [H1]; · iexact H1
        isplitl [H2]; · iexact H2
        isplitl [H3]; · iexact H3
        iexact H4
      isplitl [HS]; · iexact HS
      iintro ⟨⟨H0, H1, H2, H3, H4⟩, HS⟩
      isplitl [Hot HS Hg]
      · isplitl [Hot]; · iexact Hot
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [carried_pos V c _ _ hz, accAt_later V c t hz]
      iintro ⟨⟨Hot, HS, Hg⟩, Ho, ⟨%d0, H0⟩, ⟨%d1, H1⟩, ⟨%d2, H2⟩, ⟨%d3, H3⟩, ⟨%d4, H4⟩, H5, H6, H7⟩
      iapply (gate_body_later c Set.univ (grid1.coords t) _ _ _ _ _ _ _ _ _ _ _ _ _ _ _ _ _ _ (gateBlk V c 0 t) (gateBlk V c 1 t)
        (gateBlk V c 2 t) (gateBlk V c 3 t) (gateBlk V c 4 t) _ (fun h => hz ((isFirst_iff t).mp h))
        ((isLater_iff t).mpr (by omega)) hnl _)
      unfold inputs
      isplitl [H0 H1 H2 H3 H4]
      · isplitl [H0]; · iexact H0
        isplitl [H1]; · iexact H1
        isplitl [H2]; · iexact H2
        isplitl [H3]; · iexact H3
        iexact H4
      isplitl [HS]; · iexact HS
      iintro ⟨⟨H0, H1, H2, H3, H4⟩, HS⟩
      isplitl [Hot HS Hg]
      · isplitl [Hot]; · iexact Hot
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The same over the windows taken together, as the call asks for it. -/
theorem gate_obligation (c : Dev nD) : BodyObligation (gateDat (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (gate_point V c t) rfl .rfl fun _ => .rfl

/-- The call is entered holding the accumulator at anything. -/
theorem gate_enter (c : Dev nD) : Pipeline.ΦA spec1 c ⊢ (gateDat V c).Φ 0 := by
  rw [show (gateDat V c).Φ 0 = carried V c 0 (Nat.zero_le _) from rfl, carried_zero V c 0 _ rfl]
/-- The call is left holding the accumulator at anything. -/
theorem gate_leave (c : Dev nD) : (gateDat V c).Φ (Fin.last cfg1.N) ⊢ Pipeline.ΦA spec1 c := by
  rw [show (gateDat V c).Φ (Fin.last cfg1.N) = carried V c cfg1.N (Nat.le_refl _) from rfl,
    carried_pos V c _ _ (by rw [show cfg1.N = 8 from N_1]; decide)]
  refine .trans ?_ (rest_eq c).2
  iintro ⟨Hot, HS, Hg⟩
  isplitl [Hot]; · iexact Hot
  isplitl [HS]; · iexists _; iexact HS
  iexact Hg

end Cert.KernelIdeal.Moe

end
-- ==== Proof.Run.lean ====
/- The kernel's run. Between two steps of the program a core holds every array at known contents: as launched; after the
   first reshape; after the first call; after the two reshapes; after the second call; at the end. Each call is entered
   holding all of them and left with its output arrays at what its write-backs leave. Hence the run: every weakly fair
   execution terminates with the arguments as they were, the four results at the last contents, and every counter at zero. -/
module

public import proofs.«01_k».proof.Proof.GateRegion
public import proofs.«01_k».proof.Proof.Gen.KernelIdeal.Regions
public import Idealize.ShloMosaic.Lib.Pipeline.RegionArraysS

@[expose] public section

set_option maxRecDepth 16384

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The contents between the steps -/

/-- What every array holds after the first call; -/
abbrev afterPool (c : Dev nD) : Valuation τ sig (Elt F) := Pipeline.afterRegion (poolDat (V1 m) c) (V1 m c)
/-- the contents that call leaves, in the form the later steps read them; -/
abbrev outsPool : Outs (F := F) := fun _ r c => afterPool m c (Proc.devRef .tc r)
/-- when the second call begins; -/
abbrev beforeGate : Contents F := V3 m (outsPool m)
/-- and after it. -/
abbrev afterGate (c : Dev nD) : Valuation τ sig (Elt F) := Pipeline.afterRegion (gateDat (beforeGate m) c) (beforeGate m c)
/-- What the two calls leave. -/
def outs : Outs (F := F) := fun J r c => if J = 2 then afterPool m c (Proc.devRef .tc r) else afterGate m c (Proc.devRef .tc r)

/-- Read at the first call. -/
theorem outs_two (r : Ref sig .tc) (c : Dev nD) : outs m 2 r c = afterPool m c (Proc.devRef .tc r) := if_pos rfl
/-- Read at the second call. -/
theorem outs_four (r : Ref sig .tc) (c : Dev nD) : outs m 4 r c = afterGate m c (Proc.devRef .tc r) := if_neg (by decide)

/-- The contents after the first call do not depend on what the second leaves. -/
theorem V2_outs (c : Dev nD) : V2 m (outs m) c = V2 m (outsPool m) c := by
  unfold V2; rw [outs_two]
/-- Nor do those that the second call finds. -/
theorem V3_outs (c : Dev nD) : V3 m (outs m) c = beforeGate m c := by
  unfold beforeGate V3; rw [V2_outs]

/-- The windows of the first call are distinct arrays. -/
theorem pool_inj : Function.Injective (Pipeline.arrRef spec0) := launch0.win.arr_inj
/-- The second call's windows are distinct arrays too. -/
theorem gate_inj : Function.Injective (Pipeline.arrRef spec1) := launch1.win.arr_inj

/-- After the first call only its output array has changed. -/
theorem afterPool_eq (c : Dev nD) (b : DevRef τ sig) (hb : b ∈ Pipeline.ucRefs τ sig) : afterPool m c b = V2 m (outs m) c b := by
  obtain ⟨r, -, rfl⟩ := Finset.mem_map.mp (Finset.mem_filter.mp hb).1
  show afterPool m c (Proc.devRef .tc r) = V2 m (outs m) c (Proc.devRef .tc r)
  by_cases h : r = main_v1
  · subst h
    unfold V2
    rw [outs_two, Function.update_self]
  · refine (Pipeline.afterRegion_keeps (poolDat (V1 m) c) (V1 m c) pool_inj (fun w => poolDat_A _ c w) r ?_).trans
      (V2_of m (outs m) c r (by simpa using h)).symm
    intro w hw
    match w with
    | ⟨0, _⟩ => rfl
    | ⟨1, _⟩ => exact absurd hw.symm h

/-- After the second call only its three output arrays have changed. -/
theorem afterGate_eq (c : Dev nD) (b : DevRef τ sig) (hb : b ∈ Pipeline.ucRefs τ sig) : afterGate m c b = V4 m (outs m) c b := by
  obtain ⟨r, -, rfl⟩ := Finset.mem_map.mp (Finset.mem_filter.mp hb).1
  show afterGate m c (Proc.devRef .tc r) = V4 m (outs m) c (Proc.devRef .tc r)
  by_cases h2 : r = main_v4_2
  · subst h2
    unfold V4
    rw [outs_four m main_v4_2, Function.update_self]
  by_cases h1 : r = main_v4_1
  · subst h1
    unfold V4
    rw [outs_four m main_v4_1, Function.update_of_ne (StableHlo.devRef_ne_of_ne h2), Function.update_self]
  by_cases h0 : r = main_v4_0
  · subst h0
    unfold V4
    rw [outs_four m main_v4_0, Function.update_of_ne (StableHlo.devRef_ne_of_ne h2),
      Function.update_of_ne (StableHlo.devRef_ne_of_ne h1), Function.update_self]
  · refine (Pipeline.afterRegion_keeps (gateDat (beforeGate m) c) (beforeGate m c) gate_inj (fun w => gateDat_A _ c w) r ?_).trans
      ((V4_of m (outs m) c r (by simp [h0, h1, h2])).trans (by rw [V3_outs])).symm
    intro w hw
    match w with
    | ⟨0, _⟩ => rfl
    | ⟨1, _⟩ => rfl
    | ⟨2, _⟩ => rfl
    | ⟨3, _⟩ => rfl
    | ⟨4, _⟩ => rfl
    | ⟨5, _⟩ => exact absurd hw.symm h0
    | ⟨6, _⟩ => exact absurd hw.symm h1
    | ⟨7, _⟩ => exact absurd hw.symm h2

/-! ## The two calls as steps of the run -/

/-- The contents the two calls go through. -/
def pdats : (p : Fin 2) → (c : Dev nD) → Dat τ (Elt F) Unit ℕ (UR sig nD τ) ℕ (cfgs p) c
  | ⟨0, _⟩, c => poolDat (V1 m) c
  | ⟨1, _⟩, c => gateDat (beforeGate m) c

/-- Waits are indexed on the cores that run the program, all at one level. -/
def waits (g : GSem nD τ sig) : Finset Unit := if g.1.2 = .tc then {()} else ∅
/-- The one level of every wait. -/
def level (_ : GSem nD τ sig) (_ : Unit) : ℕ := 0

/-- What a core holds beside its arrays between two steps: nothing owed, and its random-number register. -/
def between (c : Dev nD) : sProp 𝕄 :=
  iprop((∃ Wd, owes (c : Thread nD τ) (0 : CellTallies nD τ sig Unit) Wd) ∗ (∃ r, prngReg c r) ∗ emp)

/-- Each call's waits lie at that level, with nothing owed. -/
theorem cut (p : Fin 2) : Pipeline.LevelCut (pcfgs (F := F)) adm () waits level p (fun _ => (0 : CellTallies nD τ sig Unit)) (fun _ => 0) where
  hι c w s := by unfold waits; rw [if_pos rfl]; exact Finset.mem_singleton.mpr rfl
  hιb c w s := Nat.le_refl 0
  hD c g i h := absurd h (Nat.lt_irrefl 0)

set_option backward.isDefEq.respectTransparency.types false in
/-- The first call. -/
def poolStep : RegionSeg (pcfgs (F := F)) adm (pdats m) () defs₀ Variants.none waits level 0 :=
  RegionSeg.ofHeldIn (pcfgs (F := F)) adm (pdats m) () defs₀ Variants.none waits level 0 (fun _ => 0) (Pipeline.ucRefs τ sig)
    (fun c => iprop(∃ r, prngReg c r)) (fun c => iprop(∃ r, prngReg c r)) launch0.toP rfl
    (fun c => (pool_obligation (V1 m) c).loose) (fun _ _ => rfl) (fun _ => rfl)
    (fun c => (poolDat (V1 m) c).share_full fun _ => rfl)
    (fun _ => .rfl) (fun _ => .rfl) (fun _ => 0) (cut 0) (fun _ => iprop(emp)) (V1 m)
    (fun c w => poolDat_A (V1 m) c w)

set_option backward.isDefEq.respectTransparency.types false in
/-- The second call. -/
def gateStep : RegionSeg (pcfgs (F := F)) adm (pdats m) () defs₀ Variants.none waits level 1 :=
  RegionSeg.ofHeldIn (pcfgs (F := F)) adm (pdats m) () defs₀ Variants.none waits level 1 (fun _ => 0) (Pipeline.ucRefs τ sig)
    (fun c => iprop(∃ r, prngReg c r)) (fun c => iprop(∃ r, prngReg c r)) launch1.toP rfl
    (fun c => (gate_obligation (beforeGate m) c).loose) (fun _ _ => rfl) (fun _ => rfl)
    (fun c => (gateDat (beforeGate m) c).share_full fun _ => rfl)
    (fun c => gate_enter (beforeGate m) c) (fun c => gate_leave (beforeGate m) c) (fun _ => 0) (cut 1) (fun _ => iprop(emp)) (beforeGate m)
    (fun c w => gateDat_A (beforeGate m) c w)

/-- The first call's windows are among the arrays a core holds. -/
theorem pool_arrays : Pipeline.arrRefs (τ := τ) spec0 ⊆ Pipeline.ucRefs τ sig :=
  Pipeline.arrRefs_sub_ucRefs spec0 fun w => by match w with | ⟨0, _⟩ => rfl | ⟨1, _⟩ => rfl
/-- So are the second call's. -/
theorem gate_arrays : Pipeline.arrRefs (τ := τ) spec1 ⊆ Pipeline.ucRefs τ sig :=
  Pipeline.arrRefs_sub_ucRefs spec1 fun w => by
    match w with
    | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

set_option backward.isDefEq.respectTransparency.types false in
/-- Holding every array after the first reshape, a core may enter the first call. -/
theorem pool_pre (c : Dev nD) :
    iprop(StableHlo.held (c : Thread nD τ) (Pipeline.ucRefs τ sig) (V1 m c) ∗ between (F := F) c) ⊢ (poolStep m).pre c := by
  have h := RegionSeg.ofHeldIn_pre (pcs := pcfgs (F := F)) (a := adm) (pdats := pdats m) (ι := ()) (defs₀ := defs₀)
    (𝒱₀ := Variants.none) (L := waits) (lv := level) (D := fun _ => 0) (p := 0) (X := fun c => iprop(∃ r, prngReg c r))
    (Y := fun c => iprop(∃ r, prngReg c r)) (R := fun _ => iprop(emp)) (W := V1 m) (kit := launch0.toP) (hK := rfl)
    (hbody := fun c => (pool_obligation (V1 m) c).loose) (howed := fun _ _ => rfl) (hrec := fun _ => rfl)
    (hshare := fun c => (poolDat (V1 m) c).share_full fun _ => rfl) (hin := fun _ => .rfl) (hout := fun _ => .rfl)
    (b := fun _ => 0) (hcut := cut 0) (hW := fun c w => poolDat_A (V1 m) c w) pool_arrays c
  exact h

/-- What the first call leaves, by its place among the calls. -/
theorem afterPool_data (c : Dev nD) : Pipeline.afterRegion (pdats m 0 c) (V1 m c) = afterPool m c := rfl

set_option backward.isDefEq.respectTransparency.types false in
/-- Leaving the first call a core holds every array, the output at what the write-backs left. -/
theorem pool_left (c : Dev nD) : (poolStep m).post c ⊢
    iprop(StableHlo.held (c : Thread nD τ) (Pipeline.ucRefs τ sig) (Pipeline.afterRegion (pdats m 0 c) (V1 m c)) ∗ between (F := F) c) := by
  unfold poolStep between
  exact RegionSeg.ofHeldIn_post (pcs := pcfgs (F := F)) (a := adm) (pdats := pdats m) (p := 0)
    (Y := fun c => iprop(∃ r, prngReg c r)) (R := fun _ => iprop(emp)) (W := V1 m) pool_arrays c

set_option backward.isDefEq.respectTransparency.types false in
/-- Those are the contents the next step starts from. -/
theorem pool_post (c : Dev nD) :
    (poolStep m).post c ⊢ iprop(StableHlo.held (c : Thread nD τ) (Pipeline.ucRefs τ sig) (V2 m (outs m) c) ∗ between (F := F) c) := by
  have h := pool_left m c
  rw [afterPool_data, StableHlo.held_congr (Ix := Unit) (Name := ℕ) (U := UR sig nD τ) (Lvl := ℕ) (c : Thread nD τ)
    (S := Pipeline.ucRefs τ sig) (V := afterPool m c) (V' := V2 m (outs m) c) (afterPool_eq m c)] at h
  exact h

set_option backward.isDefEq.respectTransparency.types false in
/-- Holding every array after the next two reshapes, a core may enter the second call. -/
theorem gate_pre (c : Dev nD) :
    iprop(StableHlo.held (c : Thread nD τ) (Pipeline.ucRefs τ sig) (V3 m (outs m) c) ∗ between (F := F) c) ⊢ (gateStep m).pre c := by
  rw [V3_outs]
  have h := RegionSeg.ofHeldIn_pre (pcs := pcfgs (F := F)) (a := adm) (pdats := pdats m) (ι := ()) (defs₀ := defs₀)
    (𝒱₀ := Variants.none) (L := waits) (lv := level) (D := fun _ => 0) (p := 1) (X := fun c => iprop(∃ r, prngReg c r))
    (Y := fun c => iprop(∃ r, prngReg c r)) (R := fun _ => iprop(emp)) (W := beforeGate m) (kit := launch1.toP) (hK := rfl)
    (hbody := fun c => (gate_obligation (beforeGate m) c).loose) (howed := fun _ _ => rfl) (hrec := fun _ => rfl)
    (hshare := fun c => (gateDat (beforeGate m) c).share_full fun _ => rfl) (hin := fun c => gate_enter (beforeGate m) c) (hout := fun c => gate_leave (beforeGate m) c)
    (b := fun _ => 0) (hcut := cut 1) (hW := fun c w => gateDat_A (beforeGate m) c w) gate_arrays c
  exact h

/-- What the second call leaves, by its place among the calls. -/
theorem afterGate_data (c : Dev nD) : Pipeline.afterRegion (pdats m 1 c) (beforeGate m c) = afterGate m c := rfl

set_option backward.isDefEq.respectTransparency.types false in
/-- Leaving the second call a core holds every array, the outputs at what the write-backs left. -/
theorem gate_left (c : Dev nD) : (gateStep m).post c ⊢
    iprop(StableHlo.held (c : Thread nD τ) (Pipeline.ucRefs τ sig) (Pipeline.afterRegion (pdats m 1 c) (beforeGate m c)) ∗ between (F := F) c) := by
  unfold gateStep between
  exact RegionSeg.ofHeldIn_post (pcs := pcfgs (F := F)) (a := adm) (pdats := pdats m) (p := 1)
    (Y := fun c => iprop(∃ r, prngReg c r)) (R := fun _ => iprop(emp)) (W := beforeGate m) gate_arrays c

set_option backward.isDefEq.respectTransparency.types false in
/-- Those are the contents the last step starts from. -/
theorem gate_post (c : Dev nD) :
    (gateStep m).post c ⊢ iprop(StableHlo.held (c : Thread nD τ) (Pipeline.ucRefs τ sig) (V4 m (outs m) c) ∗ between (F := F) c) := by
  have h := gate_left m c
  rw [afterGate_data, StableHlo.held_congr (Ix := Unit) (Name := ℕ) (U := UR sig nD τ) (Lvl := ℕ) (c : Thread nD τ)
    (S := Pipeline.ucRefs τ sig) (V := afterGate m c) (V' := V4 m (outs m) c) (afterGate_eq m c)] at h
  exact h

/-! ## The run -/

/-- What the program holds at its end. -/
abbrev final (c : Dev nD) : Valuation τ sig (Elt F) := V5 m (outs m) c

set_option backward.isDefEq.respectTransparency.types false in
/-- Every weakly fair execution terminates, and every final state holds every argument as launched, the four results at
    the last contents, and every semaphore counter at zero. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v4_0) = final m c main_v4_0
      ∧ r.2.mem ((c.tc : Thread nD τ).loc main_cst) = final m c main_cst
      ∧ r.2.mem ((c.tc : Thread nD τ).loc main_v4_1) = final m c main_v4_1
      ∧ r.2.mem ((c.tc : Thread nD τ).loc main_v4_2) = final m c main_v4_2)
      ∧ r.2.sem = fun _ => 0) := by
  refine Pipeline.θ_run_regions_kit_dev_sems (pcfgs (F := F)) adm (pdats m) () cellOf_inj
    (emb₁ : Emb (UR sig nD τ) 𝕄) defs₀ Variants.none waits level m ρ main
    (segs m (outs m) Variants.none waits level (fun _ => between) () (pdats m) (poolStep m) (gateStep m))
    (fun c Q => by
      rewrite [main_chain c, Seg.run_eq_chain,
        show (segs m (outs m) Variants.none waits level (fun _ => between) () (pdats m) (poolStep m) (gateStep m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0)
    (fun g hg => if_neg hg) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ between c))
    (Tₙ := fun c => StableHlo.held (c : Thread nD τ) (Pipeline.ucRefs τ sig) (final m c))
    (hch := fun c => ⟨.rfl, pool_pre m c, pool_post m c, gate_pre m c, gate_post m c, sep_mono .rfl ?_⟩)
    (hinit := ?_) (QY := fun c s =>
      (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
      ∧ s.mem ((c.tc : Thread nD τ).loc main_v4_0) = final m c main_v4_0
      ∧ s.mem ((c.tc : Thread nD τ).loc main_cst) = final m c main_cst
      ∧ s.mem ((c.tc : Thread nD τ).loc main_v4_1) = final m c main_v4_1
      ∧ s.mem ((c.tc : Thread nD τ).loc main_v4_2) = final m c main_v4_2)
    (hfin := fun c s' => ?_) (hQ := fun _ h hz => ⟨h, funext fun g => hz g (.inr (regions_no_unscoped g.2))⟩)
  · -- the launch element is the calls' own
    rw [ownU_emb₁]
    iintro Hu
    imodintro
    isplitl [Hu]; · iexact Hu
    erw [bigSep_emp_const]; exact .rfl
  · -- nothing is owed at the end
    unfold between
    iintro ⟨Ho, -, -⟩
    iexact Ho
  · -- the launch: every array as launched, nothing owed, the register at its launch state
    refine .trans ?_ fupd_intro
    refine (sep_mono .rfl Laws.affine).trans (BIBase.Entails.trans Laws.sep_emp.1 ?_)
    refine bigSep_mono fun c _ => ?_
    rw [← Pipeline.unscopedBufs_held (Ix := Unit) (Name := ℕ) (U := UR sig nD τ) (Lvl := ℕ) c (V0 m c)]
    unfold between
    show iprop(unscopedBufs c (fun b => m (c.tc.loc b)) ∗ unscopedSems0 c ∗ owes (c.tc : Thread nD τ) 0 ∅
        ∗ Pipeline.launchCred (fun _ => 0) c ∗ prngReg c (ρ c) ∗ emp)
      ⊢ iprop(unscopedBufs c (fun b => V0 m c (Proc.devRef .tc b)) ∗ (∃ Wd, owes (c.tc : Thread nD τ) (0 : CellTallies nD τ sig Unit) Wd)
        ∗ (∃ r, prngReg c r) ∗ emp)
    iintro ⟨Hb, -, Ho, -, Hg, -⟩
    isplitl [Hb]; · iexact Hb
    isplitl [Ho]; · iexists _; iexact Ho
    isplitl [Hg]; · iexists _; iexact Hg
    iempintro
  · -- the end: the arguments' and the results' arrays read off the last contents
    unfold StableHlo.held
    iintro ⟨Hh, HSI⟩
    ihave Hr := (pointsTo_read_all (Pipeline.ucRefs τ sig) (fun b => ((c : Thread nD τ).1, b)) (final m c) s') $$ [Hh HSI]
    · isplitl [Hh] <;> iassumption
    icases Hr with ⟨%h, HSI⟩
    imodintro
    isplitr
    · ipureintro
      have hr (b : Ref sig .tc) (hb : ¬(Proc.devRef .tc b : DevRef τ sig).isScoped) :
          s'.mem.mem ((c : Thread nD τ).loc b) = final m c b :=
        h (Proc.devRef .tc b) (Finset.mem_filter.mpr ⟨StableHlo.devRef_mem_tcRefs b, hb⟩)
      exact ⟨⟨(hr main_arg0 (by decide)).trans (V5_main_arg0 m (outs m) c), (hr main_arg1 (by decide)).trans (V5_main_arg1 m (outs m) c),
        (hr main_arg2 (by decide)).trans (V5_main_arg2 m (outs m) c), (hr main_arg3 (by decide)).trans (V5_main_arg3 m (outs m) c),
        (hr main_arg4 (by decide)).trans (V5_main_arg4 m (outs m) c)⟩, hr main_v4_0 (by decide), hr main_cst (by decide),
        hr main_v4_1 (by decide), hr main_v4_2 (by decide)⟩
    · iexact HSI

end Cert.KernelIdeal.Moe

end
-- ==== Proof.PooledValue.lean ====
/- What the first call leaves, on extended reals: entry `r` of the array it writes is the sum of the 49 entries of row `r`
   of the array it reads, times one forty-ninth. -/
module

public import proofs.«01_k».proof.Proof.PoolRegion
public import Idealize.ShloMosaic.Lib.Pipeline.ValueKit

@[expose] public section

set_option maxRecDepth 16384

noncomputable section

namespace Cert.KernelIdeal.Moe

open Cert.KernelIdeal Cert.KernelIdeal.Gen
open Idealize.ShloMosaic Idealize.ShloMosaic.TcCoe Idealize.SL.Sem
open Idealize.ShloMosaic.Pipeline (Dat)

/-- The named constant of the kernel is one forty-ninth. -/
theorem inv49_eq : (Named.named κ "inv49" (φ := .f32) 0x3CA72F05#32 : Ideal .f32) = ((1 / 49 : ℝ) : EReal) :=
  IdealRules.named_const.ideal_named_scalar _ _ _ _ rfl

/-- Row sums times one forty-ninth. -/
def rowMeans (X : FVec Ideal S786432x49 .f32) : FVec Ideal S786432x1 .f32 :=
  fun i => (∑ p : Fin 49, X (ix2 (i 0) p)) * ((1 / 49 : ℝ) : EReal)

/-- One block: what the body stores, entry by entry. -/
theorem pool_pay (x : FVec Ideal S8192x49 .f32) (i : S8192x1.Idx) :
    k0_pay1 (F := Ideal) x i = (∑ p : Fin 49, x (ix2 (i 0) p)) * ((1 / 49 : ℝ) : EReal) := by
  rw [← inv49_eq]
  pointwise [k0_pay1]

/-- The index maps of the first call's two windows. -/
theorem pool_idx : ∀ t : Fin cfg0.N, win0_0.index t = ![t.val, 0] ∧ win0_1.index t = ![t.val, 0] :=
  (by decide +kernel : ∀ t : Fin grid0.N, _)

variable (V : Contents Ideal)

/-- The array the first call writes. -/
theorem pooled (c : Dev nD) : (poolDat V c).arrAt 1 cfg0.N = rowMeans (V c main_v0) := by
  refine (poolDat V c).arrAt_eq_of_covers 1 _ (by decide +kernel) fun t _ y => ?_
  blk_simp
  rw [poolDat_after1]
  unfold poolLeft poolIn poolOut
  frame_out
  refine (pool_pay _ y).trans ?_
  unfold rowMeans
  blk_point [poolBlk, pool_idx t]

end Cert.KernelIdeal.Moe

end
-- ==== Proof.LogitsValue.lean ====
/- The logits the second call accumulates, on extended reals. The grid walks the 4096 hidden units in eight blocks of 512;
   each point adds the part of its own block, so after the last point the accumulator holds, at a row and an expert, the sum
   over all 4096 hidden units of the activated hidden value times the gate weight. -/
module

public import proofs.«01_k».proof.Proof.GateRegion
public import Idealize.ShloMosaic.Lib.Pipeline.ValueKit

@[expose] public section

set_option maxRecDepth 16384

noncomputable section

namespace Cert.KernelIdeal.Moe

open Cert.KernelIdeal Cert.KernelIdeal.Gen
open Idealize.ShloMosaic Idealize.ShloMosaic.TcCoe Idealize.SL.Sem
open Idealize.ShloMosaic.Pipeline (Dat)

/-- The activation: half of `h` times one plus the error function of `h` times the program's constant for `1/√2`. -/
def act (h : EReal) : EReal :=
  Ideal.ofBits .f32 0x3F000000#32 * h * (Ideal.ofBits .f32 0x3F800000#32 + Ideal.erf (h * Ideal.ofBits .f32 0x3F3504F3#32))

/-- The hidden value of row `i` at hidden unit `k`: the pooled channels through the upper half of the weights, the other
    features through the lower half, and the bias. -/
def hid (P A : FVec Ideal S1024x768 .f32) (W : FVec Ideal S1536x4096 .f32) (B : FVec Ideal S1x4096 .f32) (i : Fin 1024) (k : Fin 4096) : EReal :=
  (∑ q : Fin 768, P (ix2 i q) * W (ix2 (⟨q.val, by omega⟩ : Fin 1536) k)
    + ∑ q : Fin 768, A (ix2 i q) * W (ix2 (⟨768 + q.val, by omega⟩ : Fin 1536) k)) + B (ix2 (0 : Fin 1) k)

/-- The logits. -/
def logits (P A : FVec Ideal S1024x768 .f32) (W : FVec Ideal S1536x4096 .f32) (B : FVec Ideal S1x4096 .f32) (G : FVec Ideal S4096x16 .f32) :
    FVec Ideal S1024x16 .f32 :=
  fun i => ∑ k : Fin 4096, act (hid P A W B (i 0) k) * G (ix2 k (i 1))

/-- The part one block of hidden units adds, entry by entry. -/
theorem part_apply (x0 : FVec Ideal S1024x768 .f32) (w0 : FVec Ideal S768x512 .f32) (x1 : FVec Ideal S1024x768 .f32) (w1 : FVec Ideal S768x512 .f32)
    (b : FVec Ideal S1x512 .f32) (g : FVec Ideal S512x16 .f32) (i : S1024x16.Idx) :
    k1_pay1 (F := Ideal) x0 w0 x1 w1 b g i
      = ∑ k : Fin 512, act ((∑ q : Fin 768, x0 (ix2 (i 0) q) * w0 (ix2 q k) + ∑ q : Fin 768, x1 (ix2 (i 0) q) * w1 (ix2 q k)) + b (ix2 (0 : Fin 1) k))
          * g (ix2 k (i 1)) := by
  unfold act
  pointwise [k1_pay1]
  all_goals rfl

/-- A load of the upper half of a block of the weights reads the block's row `q`; -/
theorem ld_top (X : Vec Ideal S1536x512 .f32) (q : Fin 768) (k : Fin 512) :
    View.ld X rTop (ix2 q k) = X (ix2 (⟨q.val, by omega⟩ : Fin 1536) k) := by
  refine congrArg X (funext fun a => Fin.ext ?_)
  match a with
  | ⟨0, _⟩ => show 0 + 1 * q.val = q.val; omega
  | ⟨1, _⟩ => show 0 + 1 * k.val = k.val; omega
/-- a load of the lower half reads row `768 + q`. -/
theorem ld_bot (X : Vec Ideal S1536x512 .f32) (q : Fin 768) (k : Fin 512) :
    View.ld X rBot (ix2 q k) = X (ix2 (⟨768 + q.val, by omega⟩ : Fin 1536) k) := by
  refine congrArg X (funext fun a => Fin.ext ?_)
  match a with
  | ⟨0, _⟩ => show 768 + 1 * q.val = 768 + q.val; omega
  | ⟨1, _⟩ => show 0 + 1 * k.val = k.val; omega

/-- Both starts of a whole block are zero. -/
theorem zero_pair : (![0, 0] : Fin 2 → Nat) = fun _ => 0 := by
  funext a; match a with | ⟨0, _⟩ => rfl | ⟨1, _⟩ => rfl

/-- Loads of whole blocks read the block. -/
theorem ld_feat (X : Vec Ideal S1024x768 .f32) : View.ld X rFeat = X := View.ld_unit_zero zero_pair _ X
/-- The same of the bias, -/
theorem ld_bias (X : Vec Ideal S1x512 .f32) : View.ld X rBias = X := View.ld_unit_zero zero_pair _ X
/-- of the gate's weights -/
theorem ld_gate (X : Vec Ideal S512x16 .f32) : View.ld X rGate = X := View.ld_unit_zero zero_pair _ X
/-- and of the logits. -/
theorem ld_log (X : Vec Ideal S1024x16 .f32) : View.ld X rLog = X := View.ld_unit_zero zero_pair _ X
/-- A store of a whole block leaves what is stored. -/
theorem canon_log (p : Vec Ideal S1024x16 .f32) : View.canon [⟨rLog, p⟩] = p := View.canon_unit_zero zero_pair _ p
/-- The same of the indices. -/
theorem canon_idx (p : Vec Ideal S1024x2 .i32) : View.canon [⟨rIdx, p⟩] = p := View.canon_unit_zero zero_pair _ p

/-- The part one block adds, from the five blocks the body loads. -/
theorem part_block (x0 x1 : Vec Ideal S1024x768 .f32) (x2 : Vec Ideal S1536x512 .f32) (x3 : Vec Ideal S1x512 .f32) (x4 : Vec Ideal S512x16 .f32)
    (i : S1024x16.Idx) :
    k1_pay1 (F := Ideal) (View.ld x0 rFeat) (View.ld x2 rTop) (View.ld x1 rFeat) (View.ld x2 rBot) (View.ld x3 rBias) (View.ld x4 rGate) i
      = ∑ k : Fin 512, act ((∑ q : Fin 768, (show FVec Ideal S1024x768 .f32 from x0) (ix2 (i 0) q) * (show FVec Ideal S1536x512 .f32 from x2) (ix2 (⟨q.val, by omega⟩ : Fin 1536) k)
          + ∑ q : Fin 768, (show FVec Ideal S1024x768 .f32 from x1) (ix2 (i 0) q) * (show FVec Ideal S1536x512 .f32 from x2) (ix2 (⟨768 + q.val, by omega⟩ : Fin 1536) k))
          + (show FVec Ideal S1x512 .f32 from x3) (ix2 (0 : Fin 1) k)) * (show FVec Ideal S512x16 .f32 from x4) (ix2 k (i 1)) := by
  refine (part_apply _ _ _ _ _ _ i).trans ?_
  rw [ld_feat, ld_feat, ld_bias, ld_gate]
  refine Finset.sum_congr rfl fun k _ => ?_
  exact congrArg₂ (· * ·) (congrArg act (congrArg₂ (· + ·) (congrArg₂ (· + ·)
    (Finset.sum_congr rfl fun q _ => congrArg₂ (· * ·) rfl (ld_top x2 q k))
    (Finset.sum_congr rfl fun q _ => congrArg₂ (· * ·) rfl (ld_bot x2 q k))) rfl)) rfl

/-- The index maps of the second call's windows. -/
theorem gate_idx : ∀ t : Fin cfg1.N, win1_0.index t = ![0, 0] ∧ win1_1.index t = ![0, 0] ∧ win1_2.index t = ![0, t.val]
    ∧ win1_3.index t = ![0, t.val] ∧ win1_4.index t = ![t.val, 0] ∧ win1_5.index t = ![0, 0] ∧ win1_6.index t = ![0, 0] ∧ win1_7.index t = ![0, 0] :=
  (by decide +kernel : ∀ t : Fin grid1.N, _)

variable (V : Contents Ideal)

/-- The part point `t` adds. -/
def partAt (c : Dev nD) (t : Fin cfg1.N) (i : S1024x16.Idx) : EReal :=
  ∑ k : Fin 512, act (hid (V c main_v2) (V c main_arg1) (V c main_arg2) (V c main_v3) (i 0) ⟨t.val * 512 + k.val, by have := t.isLt; have : cfg1.N = 8 := rfl; omega⟩)
    * (show FVec Ideal S4096x16 .f32 from V c main_arg4) (ix2 (⟨t.val * 512 + k.val, by have := t.isLt; have : cfg1.N = 8 := rfl; omega⟩ : Fin 4096) (i 1))

/-- One block's part, read off the arrays. -/
theorem part_at (c : Dev nD) (t : Fin cfg1.N) (i : S1024x16.Idx) :
    k1_pay1 (F := Ideal) (View.ld (gateBlk V c 0 t) rFeat) (View.ld (gateBlk V c 2 t) rTop) (View.ld (gateBlk V c 1 t) rFeat)
      (View.ld (gateBlk V c 2 t) rBot) (View.ld (gateBlk V c 3 t) rBias) (View.ld (gateBlk V c 4 t) rGate) i = partAt V c t i := by
  refine (part_block _ _ _ _ _ i).trans ?_
  unfold partAt hid
  blk_point [gateBlk, gate_idx t]

/-- After the first point the accumulator holds its part; -/
theorem accFirst_apply (c : Dev nD) (t : Fin cfg1.N) (i : S1024x16.Idx) :
    accFirst (gateBlk V c 0 t) (gateBlk V c 1 t) (gateBlk V c 2 t) (gateBlk V c 3 t) (gateBlk V c 4 t) i = 0 + partAt V c t i := by
  rw [zero_add]
  unfold accFirst
  rw [canon_log]
  unfold k1_pay2
  rw [Idealize.ShloMosaic.shapeCast_self]
  exact part_at V c t i

/-- each later point adds its own. -/
theorem accNext_apply (c : Dev nD) (t : Fin cfg1.N) (a : FVec Ideal S1024x16 .f32) (i : S1024x16.Idx) :
    accNext (gateBlk V c 0 t) (gateBlk V c 1 t) (gateBlk V c 2 t) (gateBlk V c 3 t) (gateBlk V c 4 t) a i = a i + partAt V c t i := by
  unfold accNext
  rw [canon_log, ld_log]
  unfold k1_pay3
  rw [Idealize.ShloMosaic.shapeCast_self]
  exact congrArg (a i + ·) (part_at V c t i)

/-- After the last point the accumulator holds the logits. -/
theorem accAt_last (c : Dev nD) (t : Fin cfg1.N) (ht : t.val + 1 = cfg1.N) :
    accAt V c t.val t.isLt = logits (V c main_v2) (V c main_arg1) (V c main_arg2) (V c main_v3) (V c main_arg4) := by
  funext i
  have hN : cfg1.N = 8 := rfl
  have h := Pipeline.eq_sum_fin_of_reset_step_apply_last (M := EReal) (N := cfg1.N) (fun n h => accAt V c n h) 8 (fun _ => 0) (partAt V c)
    (fun t h j => (congrFun (accAt_first V c t (by have := t.isLt; omega)) j).trans (accFirst_apply V c t j))
    (fun t h j => (congrFun (accAt_later V c t (by have := t.isLt; omega)) j).trans (accNext_apply V c t _ j))
    (le_of_eq hN) t ht i
  refine h.trans ?_
  rw [zero_add]
  unfold partAt logits
  exact Fin.sum_mul_add_congr (S := 8) (fun s k hl => rfl)

end Cert.KernelIdeal.Moe

end
-- ==== Proof.Results.lean ====
/- The kernel's four results at the end of its run, over its arguments, on extended reals. -/
module

public import proofs.«01_k».proof.Proof.Run
public import proofs.«01_k».proof.Proof.PooledValue
public import proofs.«01_k».proof.Proof.LogitsValue
public import Idealize.ShloMosaic.Lib.Claim

@[expose] public section

set_option maxRecDepth 16384

noncomputable section

namespace Cert.KernelIdeal.Moe

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- What the first call reads: the images, one row of 49 per image and channel. -/
theorem entry_v0 (c : Dev nD) : V1 m c main_v0 = shapeCast S786432x49 (m ((c : Thread nD τ).loc main_arg0)) shapeCasts_S1024x768x7x7_S786432x49 := by
  unfold V1
  after_results
  try rfl

/-- What the second call reads: the pooled channels, a row per image; -/
theorem entry_v2 (c : Dev nD) : beforeGate m c main_v2 = shapeCast S1024x768 (afterPool m c main_v1) shapeCasts_S786432x1_S1024x768 := by
  have e : V2 m (outsPool m) c main_v1 = afterPool m c main_v1 := by unfold V2; rw [Function.update_self]
  rw [← e]
  unfold beforeGate V3
  after_results
  rfl

/-- the bias as one row; -/
theorem entry_v3 (c : Dev nD) : beforeGate m c main_v3 = shapeCast S1x4096 (m ((c : Thread nD τ).loc main_arg3)) shapeCasts_S4096_S1x4096 := by
  have e : V2 m (outsPool m) c main_arg3 = m ((c : Thread nD τ).loc main_arg3) :=
    (V2_of m (outsPool m) c main_arg3 (by decide)).trans (V1_of m c main_arg3 (by decide))
  rw [← e]
  unfold beforeGate V3
  after_results
  rfl

/-- and the three other arguments as launched. -/
theorem entry_arg (c : Dev nD) (r : Ref sig .tc) (h0 : r ∉ hostOps0_W) (h1 : r ∉ ([main_v1] : List (Ref sig .tc))) (h2 : r ∉ hostOps1_W) :
    beforeGate m c r = m ((c : Thread nD τ).loc r) :=
  (V3_of m (outsPool m) c r h2).trans ((V2_of m (outsPool m) c r h1).trans (V1_of m c r h0))

/-- The pooled channels of the images: sums of 49 times one forty-ninth, a row per image. -/
def pooledOf (X : FVec Ideal S1024x768x7x7 .f32) : FVec Ideal S1024x768 .f32 :=
  shapeCast S1024x768 (rowMeans (shapeCast S786432x49 X shapeCasts_S1024x768x7x7_S786432x49)) shapeCasts_S786432x1_S1024x768

/-- The kernel's logits over its five arguments. -/
def logitsOf (x0 : FVec Ideal S1024x768x7x7 .f32) (x1 : FVec Ideal S1024x768 .f32) (x2 : FVec Ideal S1536x4096 .f32)
    (x3 : FVec Ideal S4096 .f32) (x4 : FVec Ideal S4096x16 .f32) : FVec Ideal S1024x16 .f32 :=
  logits (pooledOf x0) x1 x2 (shapeCast S1x4096 x3 shapeCasts_S4096_S1x4096) x4

/-- The logits of core `c`'s arguments. -/
abbrev logitsAt (c : Dev nD) : FVec Ideal S1024x16 .f32 :=
  logitsOf (m ((c : Thread nD τ).loc main_arg0)) (m ((c : Thread nD τ).loc main_arg1)) (m ((c : Thread nD τ).loc main_arg2))
    (m ((c : Thread nD τ).loc main_arg3)) (m ((c : Thread nD τ).loc main_arg4))

/-- The second call finds the pooled channels. -/
theorem entry_pooled (c : Dev nD) : beforeGate m c main_v2 = pooledOf (m ((c : Thread nD τ).loc main_arg0)) := by
  rw [entry_v2]
  have e : afterPool m c main_v1 = rowMeans (V1 m c main_v0) :=
    (Pipeline.afterRegion_arr (poolDat (V1 m) c) (V1 m c) pool_inj 1).trans (pooled (V1 m) c)
  rw [e, entry_v0]
  rfl

/-- At the last point the accumulator holds the logits. -/
theorem acc_last (c : Dev nD) (t : Fin cfg1.N) (ht : t.val = 7) : accAt (beforeGate m) c t.val t.isLt = logitsAt m c := by
  rw [accAt_last (beforeGate m) c t (by rw [ht]; rfl), entry_pooled, entry_v3, entry_arg m c main_arg1 (by decide) (by decide) (by decide),
    entry_arg m c main_arg2 (by decide) (by decide) (by decide), entry_arg m c main_arg4 (by decide) (by decide) (by decide)]
  rfl

/-! ## The results -/

/-- The gates. -/
theorem final_gates (c : Dev nD) : final m c main_v4_0 = gatesOf (F := Ideal) (logitsAt m c) := by
  refine (V5_of m (outs m) c main_v4_0 (by decide)).trans ?_
  rw [← afterGate_eq m c _ (by decide)]
  refine (Pipeline.afterRegion_arr (gateDat (beforeGate m) c) (beforeGate m c) gate_inj 5).trans ?_
  refine (gateDat (beforeGate m) c).arrAt_eq_of_covers 5 _ (by decide +kernel) fun t h y => ?_
  have ht : t.val = 7 := by have := (flush1_5 t).mp h; have := t.isLt; have : cfg1.N = 8 := rfl; omega
  blk_simp
  rw [gateDat_after5, acc_last m c t ht]
  unfold gatesLeft
  rw [canon_log, ld_log]
  generalize gatesOf (F := Ideal) (logitsAt m c) = g
  blk_ext [gate_idx t]

/-- The balance loss, a zero. -/
theorem final_cst (c : Dev nD) : final m c main_cst = constant (F := Ideal) S_ .f32 0x00000000#32 := by
  unfold final V5
  after_results

/-- The router's probabilities. -/
theorem final_probs (c : Dev nD) : final m c main_v4_1 = k1_pay11 (F := Ideal) (logitsAt m c) := by
  refine (V5_of m (outs m) c main_v4_1 (by decide)).trans ?_
  rw [← afterGate_eq m c _ (by decide)]
  refine (Pipeline.afterRegion_arr (gateDat (beforeGate m) c) (beforeGate m c) gate_inj 6).trans ?_
  refine (gateDat (beforeGate m) c).arrAt_eq_of_covers 6 _ (by decide +kernel) fun t h y => ?_
  have ht : t.val = 7 := by have := (flush1_6 t).mp h; have := t.isLt; have : cfg1.N = 8 := rfl; omega
  blk_simp
  rw [gateDat_after6, acc_last m c t ht]
  unfold probsLeft
  rw [canon_log, ld_log]
  generalize k1_pay11 (F := Ideal) (logitsAt m c) = g
  blk_ext [gate_idx t]

/-- The two chosen experts. -/
theorem final_idx (c : Dev nD) : final m c main_v4_2 = idxOf (F := Ideal) (logitsAt m c) := by
  refine (V5_of m (outs m) c main_v4_2 (by decide)).trans ?_
  rw [← afterGate_eq m c _ (by decide)]
  refine (Pipeline.afterRegion_arr (gateDat (beforeGate m) c) (beforeGate m c) gate_inj 7).trans ?_
  refine (gateDat (beforeGate m) c).arrAt_eq_of_covers 7 _ (by decide +kernel) fun t h y => ?_
  have ht : t.val = 7 := by have := (flush1_7 t).mp h; have := t.isLt; have : cfg1.N = 8 := rfl; omega
  blk_simp
  rw [gateDat_after7, acc_last m c t ht]
  unfold idxLeft
  rw [canon_idx, ld_log]
  generalize idxOf (F := Ideal) (logitsAt m c) = g
  blk_ext [gate_idx t]

end Cert.KernelIdeal.Moe

end
-- ==== Proof.RefLogits.lean ====
/- The reference's logits, on extended reals, are the kernel's. The mean over the 49 positions divided by 49 is the sum
   times one forty-ninth; the contraction over the 1536 joined features is the one over the 768 pooled channels plus the one
   over the 768 others; and one plus the error function of `h` is the complementary error function of `-h`. -/
module

public import proofs.«01_k».proof.Proof.Results
public import proofs.«01_k».proof.Proof.Gen.ReferenceIdeal.Read
public import Idealize.ShloMosaic.PureOps.Ideal.Laws

@[expose] public section

set_option maxRecDepth 16384

noncomputable section

namespace Cert.ReferenceIdeal.Moe

open Cert.ReferenceIdeal Cert.ReferenceIdeal.Gen Cert.ReferenceIdeal.Read
open Idealize.ShloMosaic Idealize.SL.Sem
open Cert.KernelIdeal.Moe (pooledOf logitsOf rowMeans act hid logits)

/-- The word of 49. -/
theorem forty_nine : Ideal.ofBits .f32 0x42440000#32 = ((49 : ℝ) : EReal) := by
  simp [Ideal.ofBits, Ideal.ieee, -EReal.coe_mul]; norm_num

/-- A sum over 49 positions is the sum over seven rows of seven. -/
theorem sum_forty_nine (f : Fin 7 → Fin 7 → EReal) :
    ∑ p : Fin 49, f ⟨p.val / 7, by omega⟩ ⟨p.val % 7, by omega⟩ = ∑ a, ∑ b, f a b := by
  rw [← Fintype.sum_prod_type']
  exact Fintype.sum_equiv (finProdFinEquiv (m := 7) (n := 7)).symm _ _ (fun p => rfl)

/-- The mean over the positions. -/
theorem mean_eq (x0 : FVec Ideal S1024x768x7x7 .f32) : val_main_v2 (F := Ideal) x0 = pooledOf x0 := by
  funext i
  unfold pooledOf rowMeans
  have h49 : val_main_cst_0 (F := Ideal) ValueIdx.ix0 = ((49 : ℝ) : EReal) := forty_nine
  have h0 : val_main_cst (F := Ideal) (Shape.Idx.first h_S_) = 0 := Ideal.ofBits_zero_f32
  have hi : (i 1).val < 768 := (i 1).isLt
  have e0 : ((i 0).val * 768 + (i 1).val) / 768 = (i 0).val := by omega
  have e1 : ((i 0).val * 768 + (i 1).val) % 768 = (i 1).val := by omega
  pointwise [val_main_v2, val_main_v0, val_main_v1]
  simp only [e0, e1]
  have hs := sum_forty_nine (fun a b => x0 (ValueIdx.ix4 (i 0) (i 1) a b))
  have hd : ∀ s : EReal, Ideal.div s ((49 : ℝ) : EReal) = s * ((1 / 49 : ℝ) : EReal) := by
    intro s
    have hne : ((49 : ℝ) : EReal) ≠ 0 := by
      intro h; have := EReal.coe_eq_zero.mp h; norm_num at this
    rw [Ideal.div, if_neg hne, one_div, EReal.coe_inv]
  refine (congrArg₂ Ideal.div (congrArg (· + _) h0) h49).trans ?_
  rw [zero_add, hd]
  exact congrArg (· * _) hs.symm

/-- The hidden layer before its activation. -/
theorem hid_eq (x0 : FVec Ideal S1024x768x7x7 .f32) (x1 : FVec Ideal S1024x768 .f32) (x2 : FVec Ideal S1536x4096 .f32)
    (x3 : FVec Ideal S4096 .f32) (i : S1024x4096.Idx) :
    val_main_v7 (F := Ideal) x0 x1 x2 x3 i
      = hid (pooledOf x0) x1 x2 (shapeCast Cert.KernelIdeal.S1x4096 x3 Cert.KernelIdeal.Gen.shapeCasts_S4096_S1x4096) (i 0) (i 1) := by
  rw [← mean_eq]
  unfold hid
  pointwise [val_main_v7, val_main_v4, val_main_v3, val_main_v6, val_main_v5]

/-- The activation. -/
theorem act_eq (x0 : FVec Ideal S1024x768x7x7 .f32) (x1 : FVec Ideal S1024x768 .f32) (x2 : FVec Ideal S1536x4096 .f32)
    (x3 : FVec Ideal S4096 .f32) (i : S1024x4096.Idx) :
    val_main_v14 (F := Ideal) x0 x1 x2 x3 i = act (val_main_v7 (F := Ideal) x0 x1 x2 x3 i) := by
  unfold act
  pointwise [val_main_v14, val_main_v13, val_main_v12, val_main_v11, val_main_v10, val_main_v9, val_main_v8]
  rw [neg_mul]
  exact congrArg (fun e => _ * e) (Ideal.erfc_neg _)

/-- The reference's logits are the kernel's. -/
theorem logits_eq (x0 : FVec Ideal S1024x768x7x7 .f32) (x1 : FVec Ideal S1024x768 .f32) (x2 : FVec Ideal S1536x4096 .f32)
    (x3 : FVec Ideal S4096 .f32) (x4 : FVec Ideal S4096x16 .f32) :
    val_main_v15 (F := Ideal) x0 x1 x2 x3 x4 = logitsOf x0 x1 x2 x3 x4 := by
  funext i
  rw [val_main_v15_apply]
  unfold logitsOf logits
  refine Finset.sum_congr rfl fun k _ => ?_
  rw [act_eq, hid_eq]
  exact congrArg (act _ * ·) (congrArg x4 (by funext a; fin_cases a <;> rfl))

end Cert.ReferenceIdeal.Moe

end
-- ==== Proof.RowTop.lean ====
/- The two greatest of a row of extended reals, ties going to the smaller column, found three ways: by a definition, by the
   fold of a maximum followed by the fold of the least column that reaches it, and by a stable descending sort. -/
module

public import Idealize.ShloMosaic.Lib.SortPrefix
public import Idealize.ShloMosaic.PureOps.Reduce
public import Idealize.ShloMosaic.PureOps.Ideal.Laws

@[expose] public section

noncomputable section

namespace Cert.RowTop

open Idealize.ShloMosaic

/-- `i` is the first column that holds the row's greatest entry. -/
def IsTop (L : Fin 16 → EReal) (i : Fin 16) : Prop := ∀ k, L k ≤ L i ∧ (L k = L i → i ≤ k)

/-- `j` is the first column, `i` apart, that holds the greatest of the entries left. -/
def IsSecond (L : Fin 16 → EReal) (i j : Fin 16) : Prop := j ≠ i ∧ ∀ k, k ≠ i → L k ≤ L j ∧ (L k = L j → j ≤ k)

/-- A nonempty set of columns has a first greatest one. -/
theorem exists_first (L : Fin 16 → EReal) (S : Finset (Fin 16)) (hS : S.Nonempty) :
    ∃ i ∈ S, ∀ k ∈ S, L k ≤ L i ∧ (L k = L i → i ≤ k) := by
  classical
  obtain ⟨a, haS, ha⟩ := S.exists_max_image L hS
  have hT : (S.filter fun k => L k = L a).Nonempty := ⟨a, by simp [haS]⟩
  obtain ⟨b, hbT, hb⟩ := (S.filter fun k => L k = L a).exists_min_image id hT
  rw [Finset.mem_filter] at hbT
  refine ⟨b, hbT.1, fun k hk => ⟨(ha k hk).trans hbT.2.ge, fun e => hb k ?_⟩⟩
  rw [Finset.mem_filter]
  exact ⟨hk, e.trans hbT.2⟩

/-- Every row has a first greatest column. -/
theorem exists_top (L : Fin 16 → EReal) : ∃ i, IsTop L i := by
  obtain ⟨i, -, h⟩ := exists_first L Finset.univ ⟨0, Finset.mem_univ _⟩
  exact ⟨i, fun k => h k (Finset.mem_univ k)⟩

/-- Every row has, apart from any one column, a first greatest column. -/
theorem exists_second (L : Fin 16 → EReal) (i : Fin 16) : ∃ j, IsSecond L i j := by
  classical
  have hS : (Finset.univ.erase i).Nonempty := by
    rw [← Finset.card_pos, Finset.card_erase_of_mem (Finset.mem_univ i)]; decide
  obtain ⟨j, hj, h⟩ := exists_first L (Finset.univ.erase i) hS
  exact ⟨j, Finset.ne_of_mem_erase hj, fun k hk => h k (Finset.mem_erase.mpr ⟨hk, Finset.mem_univ k⟩)⟩

/-- The fold of the maximum, from the least value, is an entry that bounds all others. -/
theorem fold_max {n : Nat} (L : Fin n → EReal) (i : Fin n) (h : ∀ k, L k ≤ L i) :
    (Finset.univ : Finset (Fin n)).fold max ⊥ L = L i :=
  le_antisymm ((Finset.fold_max_le _).mpr ⟨bot_le, fun k _ => h k⟩)
    ((Finset.le_fold_max _).mpr (.inr ⟨i, Finset.mem_univ i, le_rfl⟩))

/-- Signed, the lesser of two words. -/
theorem toInt_minsi (x y : BitVec 32) : (IntOp.minsi x y).toInt = min x.toInt y.toInt := by
  simp only [IntOp.minsi, BitVec.slt, decide_eq_true_eq]
  split <;> omega

/-- A column's word, read signed. -/
theorem toInt_col (x : Fin 16) : (BitVec.ofNat 32 x.val).toInt = (x.val : Int) := by
  revert x; decide

/-- The least column with a property, found by folding the lesser word over the columns that have it and 16 elsewhere. -/
theorem fold_minsi (p : Fin 16 → Prop) [DecidablePred p] (i : Fin 16) (hi : p i) (h : ∀ k, p k → i ≤ k) :
    (Finset.univ : Finset (Fin 16)).fold IntOp.minsi 2147483647#32 (fun x => if p x then BitVec.ofNat 32 x.val else 16#32)
      = BitVec.ofNat 32 i.val := by
  apply BitVec.eq_of_toInt_eq
  rw [← Finset.fold_hom (op' := (min : Int → Int → Int)) (m := BitVec.toInt) toInt_minsi, toInt_col]
  refine le_antisymm ((Finset.fold_min_le _).mpr (.inr ⟨i, Finset.mem_univ i, ?_⟩))
    ((Finset.le_fold_min _).mpr ⟨?_, fun k _ => ?_⟩)
  · rw [if_pos hi, toInt_col]
  · have : (2147483647#32).toInt = 2147483647 := by decide
    omega
  · by_cases hk : p k
    · have := h k hk
      rw [if_pos hk, toInt_col]; omega
    · have : (16#32).toInt = 16 := by decide
      rw [if_neg hk]; omega

/-- A stable sort of a list depends only on how each element compares with those listed after it. -/
theorem stableSort_congr {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Two sorts with the same positions take each entry from the same place. -/
theorem sortedFrom_congr {n : Nat} (B B' : Fin n → Fin n → Bool) (e : sortPositions n B = sortPositions n B') :
    sortedFrom B = sortedFrom B' := by
  funext k
  unfold sortedFrom
  exact List.get_of_eq e _

/-- The descending comparison of a row's entries. -/
def gtAt (L : Fin 16 → EReal) (k k' : Fin 16) : Bool := decide (L k' < L k)

/-- The descending comparison, ties broken by the column. -/
def gtThen (L : Fin 16 → EReal) (k k' : Fin 16) : Bool :=
  decide (L k' < L k) || (decide (L k = L k') && decide (k < k'))

/-- The comparison that breaks ties by the column is a strict total order on the columns. -/
theorem gtThen_strict (L : Fin 16 → EReal) : StrictTotalBefore (gtThen L) :=
  StrictTotalBefore.of_key_then_position (fun a b : EReal => decide (b < a)) L
    (fun a => by simp) (fun a b c h1 h2 => by simp only [decide_eq_true_eq] at *; exact h2.trans h1)
    (fun a b => by
      simp only [decide_eq_true_eq]
      rcases lt_trichotomy a b with h | h | h
      · exact .inr (.inr h)
      · exact .inr (.inl h)
      · exact .inl h)

/-- A stable sort by the entries alone breaks ties by the column. -/
theorem sortedFrom_gtAt (L : Fin 16 → EReal) : sortedFrom (gtAt L) = sortedFrom (gtThen L) := by
  have e : sortPositions 16 (gtAt L) = sortPositions 16 (gtThen L) := by
    refine stableSort_congr _ _ _ ?_
    refine (List.pairwise_lt_finRange 16).imp ?_
    intro a b hab
    have : ¬ b < a := by omega
    simp [gtAt, gtThen, this]
  exact sortedFrom_congr _ _ e

/-- The first two positions of the stable descending sort. -/
theorem sortedFrom_two (L : Fin 16 → EReal) (i j : Fin 16) (hi : IsTop L i) (hj : IsSecond L i j) :
    sortedFrom (gtAt L) 0 = i ∧ sortedFrom (gtAt L) 1 = j := by
  rw [sortedFrom_gtAt]
  have hle : ∀ k b : Fin 16, L k ≤ L b → (L k = L b → b ≤ k) → gtThen L k b = false := by
    intro k b h1 h2
    have h3 : ¬ L b < L k := not_lt.mpr h1
    by_cases e : L k = L b
    · have := h2 e
      have : ¬ k < b := by omega
      simp [gtThen, h3, this]
    · simp [gtThen, h3, e]
  have key := StrictTotalBefore.sortedFrom_eq_of_prefix (gtThen_strict L) (k := 2) (by decide) ![i, j]
    (by
      intro a b hab
      fin_cases a <;> fin_cases b <;> simp_all [hj.1, hj.1.symm])
    (by
      intro a b hab
      have ha : a = 0 := by omega
      have hb : b = 1 := by omega
      subst ha; subst hb
      exact hle j i (hi j).1 (hi j).2)
    (by
      intro a p hp
      have h0 : p ≠ i := fun e => hp 0 e.symm
      fin_cases a
      · exact hle p i (hi p).1 (hi p).2
      · exact hle p j (hj.2 p h0).1 (hj.2 p h0).2)
  exact ⟨key 0, key 1⟩

end Cert.RowTop

end
-- ==== Proof.GateRow.lean ====
/- What the gate's last grid point writes, row by row: of a row whose two greatest logits lie at columns `i` and `j`, the
   gates, the probabilities and the two column numbers. -/
module

public import proofs.«01_k».proof.Proof.Results
public import proofs.«01_k».proof.Proof.RowTop

@[expose] public section

noncomputable section

namespace Cert.KernelIdeal.Moe

open Cert.KernelIdeal Cert.KernelIdeal.Gen
open Idealize.ShloMosaic Idealize.SL.Sem
open Cert.RowTop

/-- The word of minus infinity. -/
theorem neg_inf : Ideal.ofBits .f32 0xFF800000#32 = (⊥ : EReal) := by
  simp [Ideal.ofBits, Ideal.ieee]

/-- A choice by a test on two column words is the choice by the columns. -/
theorem select_col {α : Type} (a b : Fin 16) (x y : α) :
    Scalar.select (IntOp.cmpi .eq (BitVec.ofNat 32 a.val) (BitVec.ofNat 32 b.val)) x y = if a = b then x else y := by
  have : (IntOp.cmpi .eq (BitVec.ofNat 32 a.val) (BitVec.ofNat 32 b.val) : BitVec 1) = BitVec.ofBool (decide (a = b)) := by
    revert a b; decide
  rw [this]
  by_cases h : a = b <;> simp [Scalar.select, h]

variable (l : FVec Ideal S1024x16 .f32) (r : Fin 1024) (i j : Fin 16)

/-- A row of the logits. -/
def rowOf (l : FVec Ideal S1024x16 .f32) (r : Fin 1024) : Fin 16 → EReal := fun k => l (ix2 r k)

/-- The row's maximum. -/
theorem top_value (hi : IsTop (rowOf l r) i) : k1_pay6 (F := Ideal) l (ix2 r 0) = rowOf l r i := by
  have h : k1_pay6 (F := Ideal) l (ix2 r 0)
      = (Finset.univ : Finset (Fin 16)).fold max (Ideal.ofBits .f32 0xFF800000#32) (rowOf l r) := by
    pointwise [k1_pay6]
    rfl
  rw [h, neg_inf]
  exact fold_max _ i fun k => (hi k).1

/-- The first column that reaches it. -/
theorem top_col (hi : IsTop (rowOf l r) i) : k1_pay7 (F := Ideal) l (ix2 r 0) = BitVec.ofNat 32 i.val := by
  have h : k1_pay7 (F := Ideal) l (ix2 r 0) = (Finset.univ : Finset (Fin 16)).fold IntOp.minsi 2147483647#32
      (fun x => if rowOf l r x = k1_pay6 (F := Ideal) l (ix2 r 0) then BitVec.ofNat 32 x.val else 16#32) := by
    pointwise [k1_pay7]
    rfl
  rw [h, top_value l r i hi]
  exact fold_minsi (fun x => rowOf l r x = rowOf l r i) i rfl fun k hk => (hi k).2 hk

/-- The row with that column blanked. -/
theorem rest_value (hi : IsTop (rowOf l r) i) (k : Fin 16) :
    k1_pay8 (F := Ideal) l (ix2 r k) = if k = i then ⊥ else rowOf l r k := by
  have h : k1_pay8 (F := Ideal) l (ix2 r k)
      = Scalar.select (IntOp.cmpi .eq (BitVec.ofNat 32 k.val) (k1_pay7 (F := Ideal) l (ix2 r 0)))
          (Ideal.ofBits .f32 0xFF800000#32) (rowOf l r k) := by
    pointwise [k1_pay8]
    rfl
  rw [h, top_col l r i hi, neg_inf, select_col]

/-- The greatest of the rest. -/
theorem second_value (hi : IsTop (rowOf l r) i) (hj : IsSecond (rowOf l r) i j) :
    k1_pay9 (F := Ideal) l (ix2 r 0) = rowOf l r j := by
  have h : k1_pay9 (F := Ideal) l (ix2 r 0)
      = (Finset.univ : Finset (Fin 16)).fold max (Ideal.ofBits .f32 0xFF800000#32)
          (fun k => k1_pay8 (F := Ideal) l (ix2 r k)) := by
    pointwise [k1_pay9]
  rw [h, neg_inf, show (fun k => k1_pay8 (F := Ideal) l (ix2 r k)) = _ from funext (rest_value l r i hi)]
  refine (fold_max _ j fun k => ?_).trans (if_neg hj.1)
  show (if k = i then ⊥ else rowOf l r k) ≤ (if j = i then ⊥ else rowOf l r j)
  rw [if_neg hj.1]
  by_cases hk : k = i
  · rw [if_pos hk]; exact bot_le
  · rw [if_neg hk]; exact (hj.2 k hk).1

/-- The first column that reaches it; the blanked one does not, an entry of the row being more than minus infinity. -/
theorem second_col (hi : IsTop (rowOf l r) i) (hj : IsSecond (rowOf l r) i j) (hb : rowOf l r j ≠ ⊥) :
    k1_pay10 (F := Ideal) l (ix2 r 0) = BitVec.ofNat 32 j.val := by
  have h : k1_pay10 (F := Ideal) l (ix2 r 0) = (Finset.univ : Finset (Fin 16)).fold IntOp.minsi 2147483647#32
      (fun x => if k1_pay8 (F := Ideal) l (ix2 r x) = k1_pay9 (F := Ideal) l (ix2 r 0) then BitVec.ofNat 32 x.val else 16#32) := by
    pointwise [k1_pay10]
  rw [h, second_value l r i j hi hj]
  refine fold_minsi (fun x => k1_pay8 (F := Ideal) l (ix2 r x) = rowOf l r j) j ?_ fun k hk => ?_
  · rw [rest_value l r i hi, if_neg hj.1]
  · rw [rest_value l r i hi] at hk
    by_cases e : k = i
    · rw [if_pos e] at hk; exact absurd hk.symm hb
    · rw [if_neg e] at hk; exact (hj.2 k e).2 hk

/-- The ratio of the second gate to the first. -/
def ratio (l : FVec Ideal S1024x16 .f32) (r : Fin 1024) (i j : Fin 16) : EReal := Ideal.exp (rowOf l r j - rowOf l r i)

/-- The gates of a row. -/
theorem gates_row (hi : IsTop (rowOf l r) i) (hj : IsSecond (rowOf l r) i j) (hb : rowOf l r j ≠ ⊥) (k : Fin 16) :
    gatesOf (F := Ideal) l (ix2 r k)
      = (if k = i then Ideal.div 1 (1 + ratio l r i j) else 0)
        + (if k = j then Ideal.div (ratio l r i j) (1 + ratio l r i j) else 0) := by
  have h12 : k1_pay12 (F := Ideal) l (ix2 r 0) = ratio l r i j := by
    have : k1_pay12 (F := Ideal) l (ix2 r 0)
        = Ideal.exp (k1_pay9 (F := Ideal) l (ix2 r 0) - k1_pay6 (F := Ideal) l (ix2 r 0)) := by
      pointwise [k1_pay12]
    rw [this, second_value l r i j hi hj, top_value l r i hi]; rfl
  have h13 : k1_pay13 (F := Ideal) l (ix2 r 0) = Ideal.div (ratio l r i j) (1 + ratio l r i j) := by
    rw [← h12]; pointwise [k1_pay13]
  have h15 : k1_pay15 (F := Ideal) l (ix2 r k) = Ideal.div 1 (1 + ratio l r i j) := by
    rw [← h12]; pointwise [k1_pay15]
  have h14 : k1_pay14 (F := Ideal) l (ix2 r k) = IntOp.cmpi .eq (BitVec.ofNat 32 k.val) (BitVec.ofNat 32 i.val) := by
    rw [← top_col l r i hi]; pointwise [k1_pay14]
  have h : gatesOf (F := Ideal) l (ix2 r k)
      = Scalar.select (k1_pay14 (F := Ideal) l (ix2 r k)) (k1_pay15 (F := Ideal) l (ix2 r k)) 0
        + Scalar.select (IntOp.cmpi .eq (BitVec.ofNat 32 k.val) (k1_pay10 (F := Ideal) l (ix2 r 0)))
            (k1_pay13 (F := Ideal) l (ix2 r 0)) 0 := by
    unfold gatesOf
    pointwise [k1_pay4]
  rw [h, h14, h15, h13, second_col l r i j hi hj hb, select_col, select_col]

/-- The probabilities of a row. -/
theorem probs_row (hi : IsTop (rowOf l r) i) (k : Fin 16) :
    k1_pay11 (F := Ideal) l (ix2 r k)
      = Ideal.div (Ideal.exp (rowOf l r k - rowOf l r i)) (∑ x, Ideal.exp (rowOf l r x - rowOf l r i)) := by
  rw [← top_value l r i hi]
  unfold rowOf
  pointwise [k1_pay11]

/-- The two columns of a row. -/
theorem idx_row (hi : IsTop (rowOf l r) i) (hj : IsSecond (rowOf l r) i j) (hb : rowOf l r j ≠ ⊥) (k : Fin 2) :
    idxOf (F := Ideal) l (ix2 r k) = BitVec.ofNat 32 ((![i, j] : Fin 2 → Fin 16) k).val := by
  have h : idxOf (F := Ideal) l (ix2 r k)
      = if k.val < 1 then k1_pay7 (F := Ideal) l (ix2 r 0) else k1_pay10 (F := Ideal) l (ix2 r 0) := by
    unfold idxOf
    fin_cases k
    all_goals pointwise [k1_pay5]
  rw [h, top_col l r i hi, second_col l r i j hi hj hb]
  fin_cases k <;> rfl

end Cert.KernelIdeal.Moe

end
-- ==== Proof.RefRow.lean ====
/- What the reference writes, row by row: of a row whose two greatest logits lie at columns `i` and `j`, the two sorted
   values and columns, the probabilities, and the gates scattered back to their columns. -/
module

public import proofs.«01_k».proof.Proof.GateRow
public import proofs.«01_k».proof.Proof.Gen.ReferenceIdeal.Read
public import Idealize.ShloMosaic.Lib.ScatterToDense.RefScatter

@[expose] public section

set_option maxRecDepth 16384

noncomputable section

namespace Cert.ReferenceIdeal.Moe

open Cert.ReferenceIdeal Cert.ReferenceIdeal.Gen Cert.ReferenceIdeal.Read
open Idealize.ShloMosaic Idealize.SL.Sem
open Cert.RowTop
open Cert.KernelIdeal.Moe (rowOf ratio neg_inf)

/-- The position of the row's `k`-th greatest logit. -/
def place (l : FVec Ideal S1024x16 .f32) (r : Fin 1024) (k : Fin 3) : Fin 16 :=
  sortedFrom (gtAt (rowOf l r)) ⟨k.val, by omega⟩

/-- The full-row index of an index of the three kept. -/
def wide (r : Fin 1024) (k : Fin 3) : S1024x16.Idx := ix2 r ⟨k.val, by omega⟩

/-- Moving along the row from a kept index gives the row's own indices. -/
theorem along_wide (r : Fin 1024) (k : Fin 3) (q : Fin 16) :
    (wide r k).along (1 : Fin 2) q = (ix2 r q : S1024x16.Idx) := by
  funext a
  fin_cases a <;> rfl

/-- The comparison that sorts. -/
theorem cmp_gt (a b : EReal) : (FloatOps.cmpfTotal (F := Ideal) (φ := .f32) .gt a b == 1#1) = decide (b < a) := by
  show ((BitVec.ofBool (decide (b < a))) == 1#1) = decide (b < a)
  by_cases h : b < a <;> simp [h]

/-- The sort that the reference makes of a row puts at the `k`-th place the column `place` names. -/
theorem sort_place (l : FVec Ideal S1024x16 .f32) (r : Fin 1024) (k : Fin 3) :
    sortedFrom (fun q q' : Fin 16 => FloatOps.cmpfTotal (F := Ideal) (φ := .f32) .gt
      (l ((wide r k).along (1 : Fin 2) q)) (l ((wide r k).along (1 : Fin 2) q')) == 1#1) ⟨k.val, by omega⟩ = place l r k := by
  unfold place
  congr 1
  funext q q'
  rw [along_wide, along_wide, cmp_gt]
  rfl

/-- A companion of the sorted row is taken from the same place. -/
theorem sort_second (l : FVec Ideal S1024x16 .f32) (y : IVec S1024x16 32) (r : Fin 1024) (k : Fin 3) :
    (Host.sort2 S1024x16 1 (fun a b : EReal × BitVec 32 => FloatOps.cmpfTotal (F := Ideal) (φ := .f32) .gt a.1 b.1) l y).2
        (wide r k)
      = y ((wide r k).along (1 : Fin 2) (place l r k)) := by
  rw [← sort_place]
  rfl

/-- The sorted values kept. -/
theorem values_apply (l : FVec Ideal S1024x16 .f32) (r : Fin 1024) (k : Fin 3) :
    (Host.topK S1024x3 1 (FloatOps.cmpfTotal (F := Ideal) (φ := .f32) .gt) l sliceFits_S1024x16_S1024x3).1 (ix2 r k)
      = rowOf l r (place l r k) := by
  unfold rowOf
  rw [← along_wide r k, ← sort_place]
  unfold Host.topK
  dsimp only
  rw [extractStridedSlice_apply (fun _ => 0) _ sliceFits_S1024x16_S1024x3 (ix2 r k) (wide r k)
    (fun a => by fin_cases a <;> exact (Nat.zero_add _).symm)]
  rfl

/-- Their columns. -/
theorem columns_apply (l : FVec Ideal S1024x16 .f32) (r : Fin 1024) (k : Fin 3) :
    (Host.topK S1024x3 1 (FloatOps.cmpfTotal (F := Ideal) (φ := .f32) .gt) l sliceFits_S1024x16_S1024x3).2 (ix2 r k)
      = BitVec.ofNat 32 (place l r k).val := by
  unfold Host.topK
  dsimp only
  rw [extractStridedSlice_apply (fun _ => 0) _ sliceFits_S1024x16_S1024x3 (ix2 r k) (wide r k)
    (fun a => by fin_cases a <;> exact (Nat.zero_add _).symm)]
  rw [sort_second]
  generalize place l r k = p
  rfl

variable (x0 : FVec Ideal S1024x768x7x7 .f32) (x1 : FVec Ideal S1024x768 .f32) (x2 : FVec Ideal S1536x4096 .f32)
    (x3 : FVec Ideal S4096 .f32) (x4 : FVec Ideal S4096x16 .f32)
    (l : FVec Ideal S1024x16 .f32) (hl : val_main_v15 (F := Ideal) x0 x1 x2 x3 x4 = l)
    (r : Fin 1024) (i j : Fin 16) (hi : IsTop (rowOf l r) i) (hj : IsSecond (rowOf l r) i j)

include hi hj in
/-- The first two places are the two greatest columns. -/
theorem place_two (k : Fin 2) : place l r ⟨k.val, by omega⟩ = (![i, j] : Fin 2 → Fin 16) k := by
  have h := sortedFrom_two (rowOf l r) i j hi hj
  fin_cases k
  · exact h.1
  · exact h.2

include hl hi hj in
/-- The two greatest logits. -/
theorem two_values (k : Fin 2) :
    val_main_v27 (F := Ideal) x0 x1 x2 x3 x4 (ix2 r k) = rowOf l r ((![i, j] : Fin 2 → Fin 16) k) := by
  rw [val_main_v27_apply, ← place_two l r i j hi hj k]
  unfold val_main_values
  rw [hl, ← values_apply]
  exact congrArg _ (by funext a; fin_cases a <;> rfl)

include hl hi hj in
/-- Their columns. -/
theorem two_columns (k : Fin 2) :
    val_main_v28 (F := Ideal) x0 x1 x2 x3 x4 (ix2 r k) = BitVec.ofNat 32 ((![i, j] : Fin 2 → Fin 16) k).val := by
  rw [val_main_v28_apply, ← place_two l r i j hi hj k]
  unfold val_main_indices
  rw [hl, ← columns_apply]
  exact congrArg _ (by funext a; fin_cases a <;> rfl)

include hl hi in
/-- The probabilities. -/
theorem probs_ref (k : Fin 16) :
    val_main_v26 (F := Ideal) x0 x1 x2 x3 x4 (ix2 r k)
      = Ideal.div (Ideal.exp (rowOf l r k - rowOf l r i)) (∑ x, Ideal.exp (rowOf l r x - rowOf l r i)) := by
  have hm : max (Ideal.ofBits .f32 0xFF800000#32)
      ((Finset.univ : Finset (Fin 16)).fold max (Ideal.ofBits .f32 0xFF800000#32) (rowOf l r)) = rowOf l r i := by
    rw [neg_inf, fold_max _ i fun k => (hi k).1]; exact max_eq_right bot_le
  have h : val_main_v26 (F := Ideal) x0 x1 x2 x3 x4 (ix2 r k)
      = Ideal.div (Ideal.exp (rowOf l r k - max (Ideal.ofBits .f32 0xFF800000#32)
          ((Finset.univ : Finset (Fin 16)).fold max (Ideal.ofBits .f32 0xFF800000#32) (rowOf l r))))
        (val_main_cst_5 (F := Ideal) (Shape.Idx.first h_S_) + ∑ x, Ideal.exp (rowOf l r x - max (Ideal.ofBits .f32 0xFF800000#32)
          ((Finset.univ : Finset (Fin 16)).fold max (Ideal.ofBits .f32 0xFF800000#32) (rowOf l r)))) := by
    rw [← hl]
    pointwise [val_main_v26, val_main_v25, val_main_v24, val_main_v23, val_main_v22, val_main_v21, val_main_v20,
      val_main_v19, val_main_v18, val_main_v17, val_main_v16]
    rfl
  have h0 : val_main_cst_5 (F := Ideal) (Shape.Idx.first h_S_) = 0 := Ideal.ofBits_zero_f32
  rw [h, hm, h0, zero_add]

include hl hi hj in
/-- The softmax of the two greatest logits. -/
theorem soft_two (ht : rowOf l r i ≠ ⊤) (hb : rowOf l r i ≠ ⊥) (k : Fin 2) :
    val_main_v39 (F := Ideal) x0 x1 x2 x3 x4 (ix2 r k)
      = (![Ideal.div 1 (1 + ratio l r i j), Ideal.div (ratio l r i j) (1 + ratio l r i j)] : Fin 2 → EReal) k := by
  have hm : max (Ideal.ofBits .f32 0xFF800000#32)
      ((Finset.univ : Finset (Fin 2)).fold max (Ideal.ofBits .f32 0xFF800000#32)
        (fun x => rowOf l r ((![i, j] : Fin 2 → Fin 16) x))) = rowOf l r i := by
    rw [neg_inf, fold_max _ 0 fun x => by fin_cases x; exacts [le_rfl, (hi j).1]]; exact max_eq_right bot_le
  have h : val_main_v39 (F := Ideal) x0 x1 x2 x3 x4 (ix2 r k)
      = Ideal.div (Ideal.exp (val_main_v27 (F := Ideal) x0 x1 x2 x3 x4 (ix2 r k) - max (Ideal.ofBits .f32 0xFF800000#32)
          ((Finset.univ : Finset (Fin 2)).fold max (Ideal.ofBits .f32 0xFF800000#32)
            (fun x => val_main_v27 (F := Ideal) x0 x1 x2 x3 x4 (ix2 r x)))))
        (val_main_cst_8 (F := Ideal) (Shape.Idx.first h_S_) + ∑ x : Fin 2, Ideal.exp (val_main_v27 (F := Ideal) x0 x1 x2 x3 x4 (ix2 r x)
          - max (Ideal.ofBits .f32 0xFF800000#32)
          ((Finset.univ : Finset (Fin 2)).fold max (Ideal.ofBits .f32 0xFF800000#32)
            (fun x => val_main_v27 (F := Ideal) x0 x1 x2 x3 x4 (ix2 r x))))) := by
    pointwise [val_main_v39, val_main_v38, val_main_v37, val_main_v36, val_main_v35, val_main_v34, val_main_v33,
      val_main_v32, val_main_v31, val_main_v30, val_main_v29]
    rfl
  have e0 : Ideal.exp (0 : EReal) = 1 := by
    show ((Real.exp 0 : ℝ) : EReal) = 1
    rw [Real.exp_zero, EReal.coe_one]
  simp only [two_values x0 x1 x2 x3 x4 l hl r i j hi hj] at h
  have h0 : val_main_cst_8 (F := Ideal) (Shape.Idx.first h_S_) = 0 := Ideal.ofBits_zero_f32
  rw [h, hm, h0, zero_add, Fin.sum_univ_two]
  show Ideal.div (Ideal.exp (rowOf l r ((![i, j] : Fin 2 → Fin 16) k) - rowOf l r i))
    (Ideal.exp (rowOf l r i - rowOf l r i) + ratio l r i j) = _
  rw [EReal.sub_self ht hb, e0]
  fin_cases k
  · show Ideal.div (Ideal.exp (rowOf l r i - rowOf l r i)) _ = _
    rw [EReal.sub_self ht hb, e0]; rfl
  · rfl

/-- A small word is not negative, so it is not moved. -/
theorem keep_word (n : Nat) (hn : n < 1024) (y : BitVec 32) :
    Scalar.select (IntOp.cmpi .slt (BitVec.ofNat 32 n) 0#32) y (BitVec.ofNat 32 n) = BitVec.ofNat 32 n := by
  have : (BitVec.ofNat 32 n).toNat = n := by rw [BitVec.toNat_ofNat]; omega
  rw [WordCmp.cmpi_slt_zero, WordCmp.select_decide, if_neg (by omega)]

/-- The index pair of an update starts with its row. -/
theorem pair_row (q : Fin 1024) (k : Fin 2) :
    val_main_v56 (F := Ideal) x0 x1 x2 x3 x4 (ix3 q k 0) = BitVec.ofNat 32 q.val := by
  have h : val_main_v56 (F := Ideal) x0 x1 x2 x3 x4 (ix3 q k 0)
      = Scalar.select (IntOp.cmpi .slt (BitVec.ofNat 32 q.val) 0#32) (IntOp.addi (BitVec.ofNat 32 q.val) 1024#32)
          (BitVec.ofNat 32 q.val) := by
    pointwise [val_main_v56, val_main_v55, val_main_v54, val_main_v53, val_main_v52, val_main_v51, val_main_v50,
      val_main_v49, val_main_v48, val_main_v47, val_main_v46, val_main_v45, val_main_v44, val_main_v43, val_main_v42,
      val_main_v41]
    rfl
  rw [h, keep_word _ q.isLt]

/-- It ends with its wrapped column. -/
theorem pair_col (q : Fin 1024) (k : Fin 2) :
    val_main_v56 (F := Ideal) x0 x1 x2 x3 x4 (ix3 q k 1)
      = Scalar.select (IntOp.cmpi .slt (val_main_v28 (F := Ideal) x0 x1 x2 x3 x4 (ix2 q k)) 0#32)
          (IntOp.addi (val_main_v28 (F := Ideal) x0 x1 x2 x3 x4 (ix2 q k)) 16#32)
          (val_main_v28 (F := Ideal) x0 x1 x2 x3 x4 (ix2 q k)) := by
  pointwise [val_main_v56, val_main_v55, val_main_v54, val_main_v53, val_main_v52, val_main_v51, val_main_v50,
    val_main_v49, val_main_v48, val_main_v47, val_main_v46, val_main_v45, val_main_v44, val_main_v43, val_main_v42,
    val_main_v41]
  rfl

include hl hi hj in
/-- The gates. -/
theorem gates_ref (ht : rowOf l r i ≠ ⊤) (hb : rowOf l r i ≠ ⊥) (k : Fin 16) :
    val_main_v57 (F := Ideal) x0 x1 x2 x3 x4 (ix2 r k)
      = (if k = i then Ideal.div 1 (1 + ratio l r i j) else 0)
        + (if k = j then Ideal.div (ratio l r i j) (1 + ratio l r i j) else 0) := by
  have hs := ScatterToDense.scatter_eq_GS (T := 1024) (C := 16) (K := 2) scatter_S1024x16_S1024x2x2_S1024x2_n_01_01_2
    rfl rfl rfl (by decide) (by decide) (val_main_v40 (F := Ideal)) (val_main_v56 (F := Ideal) x0 x1 x2 x3 x4)
    (val_main_v39 (F := Ideal) x0 x1 x2 x3 x4)
    (fun q n => val_main_v56 (F := Ideal) x0 x1 x2 x3 x4 (ix3 q ⟨n % 2, Nat.mod_lt _ (by decide)⟩ 1))
    (fun q n => val_main_v39 (F := Ideal) x0 x1 x2 x3 x4 (ix2 q ⟨n % 2, Nat.mod_lt _ (by decide)⟩))
    (fun q n => pair_row x0 x1 x2 x3 x4 q n)
    (fun q n => by fin_cases n <;> rfl) (fun q n => by fin_cases n <;> rfl) r k
  unfold val_main_v57
  refine hs.trans ?_
  have hw : ∀ n : Fin 2, val_main_v56 (F := Ideal) x0 x1 x2 x3 x4 (ix3 r n 1)
      = BitVec.ofNat 32 ((![i, j] : Fin 2 → Fin 16) n).val := fun n => by
    rw [pair_col, two_columns x0 x1 x2 x3 x4 l hl r i j hi hj, keep_word _ (by omega)]
  have hn : ∀ c : Fin 16, (k.val = (BitVec.ofNat 32 c.val).toNat) = (k = c) := fun c => by
    rw [BitVec.toNat_ofNat, Nat.mod_eq_of_lt (by omega), Fin.ext_iff]
  have h40 : val_main_v40 (F := Ideal) (ix2 r k) = 0 := by pointwise [val_main_v40]; exact Ideal.ofBits_zero_f32
  show (if k.val = (val_main_v56 (F := Ideal) x0 x1 x2 x3 x4 (ix3 r 1 1)).toNat then
      val_main_v39 (F := Ideal) x0 x1 x2 x3 x4 (ix2 r 1)
    else if k.val = (val_main_v56 (F := Ideal) x0 x1 x2 x3 x4 (ix3 r 0 1)).toNat then
      val_main_v39 (F := Ideal) x0 x1 x2 x3 x4 (ix2 r 0) else val_main_v40 (F := Ideal) (ix2 r k)) = _
  have hv := soft_two x0 x1 x2 x3 x4 l hl r i j hi hj ht hb
  rw [hw 1, hw 0, hv 1, hv 0, h40]
  show (if k.val = (BitVec.ofNat 32 j.val).toNat then Ideal.div (ratio l r i j) (1 + ratio l r i j)
    else if k.val = (BitVec.ofNat 32 i.val).toNat then Ideal.div 1 (1 + ratio l r i j) else 0) = _
  simp only [hn]
  by_cases h1 : k = j
  · have h2 : k ≠ i := fun e => hj.1 (h1.symm.trans e)
    rw [if_pos h1, if_neg h2, if_pos h1, zero_add]
  · rw [if_neg h1, if_neg h1, add_zero]

end Cert.ReferenceIdeal.Moe

end
-- ==== Proof.Finite.lean ====
/- The precondition read on the extended reals: every entry of every argument is a real number, so every logit is one. -/
module

public import proofs.«01_k».proof.Proof.Results
public import proofs.«01_k».proof.Proof.Gen.Pre_finite
public import Idealize.ShloMosaic.Lib.ReduceAll
public import Idealize.ShloMosaic.PureOps.Ideal.Laws

@[expose] public section

set_option maxRecDepth 16384

noncomputable section

namespace Cert.KernelIdeal.Moe

open Cert.KernelIdeal Cert.KernelIdeal.Gen
open Idealize.ShloMosaic Idealize.SL.Sem

/-- An extended real that is a real number. -/
def IsReal (x : EReal) : Prop := ∃ a : ℝ, x = (a : EReal)

/-- A sum of two real numbers is real. -/
theorem IsReal.add {x y : EReal} : IsReal x → IsReal y → IsReal (x + y)
  | ⟨a, ha⟩, ⟨b, hb⟩ => ⟨a + b, by rw [ha, hb, EReal.coe_add]⟩

/-- A product of two real numbers is real. -/
theorem IsReal.mul {x y : EReal} : IsReal x → IsReal y → IsReal (x * y)
  | ⟨a, ha⟩, ⟨b, hb⟩ => ⟨a * b, by rw [ha, hb, EReal.coe_mul]⟩

/-- A finite sum of real numbers is real. -/
theorem IsReal.sum {n : Nat} (f : Fin n → EReal) (h : ∀ k, IsReal (f k)) : IsReal (∑ k, f k) :=
  Finset.sum_induction f IsReal (fun _ _ => IsReal.add) ⟨0, rfl⟩ fun k _ => h k

/-- A real number is not plus infinity. -/
theorem IsReal.ne_top {x : EReal} : IsReal x → x ≠ ⊤
  | ⟨a, ha⟩ => ha ▸ EReal.coe_ne_top a

/-- A real number is not minus infinity. -/
theorem IsReal.ne_bot {x : EReal} : IsReal x → x ≠ ⊥
  | ⟨a, ha⟩ => ha ▸ EReal.coe_ne_bot a

/-- What is below infinity in absolute value is a real number. -/
theorem IsReal.of_abs {x : EReal} (h : max x (-x) < ⊤) : IsReal x := by
  induction x with
  | bot => simp at h
  | top => simp at h
  | coe a => exact ⟨a, rfl⟩

/-- The error function's values are real. -/
theorem real_erf (x : EReal) : IsReal (Ideal.erf x) := by
  induction x with
  | bot => exact ⟨-1, by show (-1 : EReal) = _; simp⟩
  | top => exact ⟨1, rfl⟩
  | coe a => exact ⟨_, rfl⟩

/-- The literal one half is real. -/
theorem real_half : IsReal (Ideal.ofBits .f32 0x3F000000#32) := ⟨_, by simp [Ideal.ofBits, Ideal.ieee, -EReal.coe_mul]; rfl⟩
/-- The literal one is real. -/
theorem real_one : IsReal (Ideal.ofBits .f32 0x3F800000#32) := ⟨_, by simp [Ideal.ofBits, Ideal.ieee, -EReal.coe_mul]; rfl⟩
/-- The literal that scales the error function's argument is real. -/
theorem real_root : IsReal (Ideal.ofBits .f32 0x3F3504F3#32) := ⟨_, by simp [Ideal.ofBits, Ideal.ieee, -EReal.coe_mul]; rfl⟩

/-- The activation of a real number is real. -/
theorem real_act {h : EReal} (hh : IsReal h) : IsReal (act h) :=
  (real_half.mul hh).mul (real_one.add (real_erf _))

/-- Every pooled entry is real. -/
theorem real_pooled (x0 : FVec Ideal S1024x768x7x7 .f32) (h0 : ∀ i, IsReal (x0 i)) (i : S1024x768.Idx) : IsReal (pooledOf x0 i) := by
  unfold pooledOf
  exact IsReal.mul (IsReal.sum _ fun k => h0 _) ⟨_, rfl⟩

/-- Every logit is real. -/
theorem real_logits (x0 : FVec Ideal S1024x768x7x7 .f32) (x1 : FVec Ideal S1024x768 .f32) (x2 : FVec Ideal S1536x4096 .f32)
    (x3 : FVec Ideal S4096 .f32) (x4 : FVec Ideal S4096x16 .f32) (h0 : ∀ i, IsReal (x0 i)) (h1 : ∀ i, IsReal (x1 i))
    (h2 : ∀ i, IsReal (x2 i)) (h3 : ∀ i, IsReal (x3 i)) (h4 : ∀ i, IsReal (x4 i)) (i : S1024x16.Idx) :
    IsReal (logitsOf x0 x1 x2 x3 x4 i) :=
  IsReal.sum _ fun k => (real_act (((IsReal.sum _ fun q => (real_pooled x0 h0 _).mul (h2 _)).add
    (IsReal.sum _ fun q => (h1 _).mul (h2 _))).add (h3 _))).mul (h4 _)

/-- The word of plus infinity. -/
theorem pos_inf : Ideal.ofBits .f32 0x7F800000#32 = (⊤ : EReal) := by
  simp [Ideal.ofBits, Ideal.ieee]

/-- A comparison of absolute values with infinity that holds everywhere: every entry is real. -/
theorem real_of_all {s : Shape} {axes : List (Fin s.rank)} (x : FVec Ideal s .f32) (y : FVec Ideal s .f32) (hy : ∀ i, y i = ⊤)
    (h : s.ReducesTo axes Cert.Pre_finite.S_) (hu : 0 < Cert.Pre_finite.S_.numel) (init : IVec Cert.Pre_finite.S_ 1) (z)
    (e : Host.reduce IntOp.andi (cmpf .olt (Host.absf x) y) init h hu z = 1#1) (i : s.Idx) : IsReal (x i) := by
  haveI : Subsingleton Cert.Pre_finite.S_.Idx := ⟨fun a b => funext fun q => q.elim0⟩
  have hc := Host.reduce_andi_all _ init h hu z e i
  have hlt : BitVec.ofBool (decide (max (x i) (-(x i)) < y i)) = 1#1 := hc
  rw [hy] at hlt
  refine IsReal.of_abs ?_
  by_contra hn
  simp [hn] at hlt

/-- The precondition makes every argument entry real. -/
theorem real_args (x0 : FVec Ideal S1024x768x7x7 .f32) (x1 : FVec Ideal S1024x768 .f32) (x2 : FVec Ideal S1536x4096 .f32)
    (x3 : FVec Ideal S4096 .f32) (x4 : FVec Ideal S4096x16 .f32)
    (h : Cert.Pre_finite.fn (F := Ideal) x0 x1 x2 x3 x4 = fun _ => 1#1) :
    (∀ i, IsReal (x0 i)) ∧ (∀ i, IsReal (x1 i)) ∧ (∀ i, IsReal (x2 i)) ∧ (∀ i, IsReal (x3 i)) ∧ (∀ i, IsReal (x4 i)) := by
  have e := congrFun h ValueIdx.ix0
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all x0 _ (fun _ => pos_inf) _ _ _ _ e0, real_of_all x1 _ (fun _ => pos_inf) _ _ _ _ e1,
    real_of_all x2 _ (fun _ => pos_inf) _ _ _ _ e2, real_of_all x3 _ (fun _ => pos_inf) _ _ _ _ e3,
    real_of_all x4 _ (fun _ => pos_inf) _ _ _ _ e4⟩

end Cert.KernelIdeal.Moe

end
-- ==== Proof.Agree.lean ====
/- On arguments whose entries are real numbers, what the kernel leaves in each of its results is what the reference leaves. -/
module

public import proofs.«01_k».proof.Proof.RefLogits
public import proofs.«01_k».proof.Proof.RefRow
public import proofs.«01_k».proof.Proof.Finite

@[expose] public section

noncomputable section

namespace Cert.Agree

open Idealize.ShloMosaic Idealize.SL.Sem
open Cert.ReferenceIdeal Cert.ReferenceIdeal.Read Cert.ReferenceIdeal.Moe
open Cert.KernelIdeal.Moe (logitsOf rowOf IsReal gatesOf idxOf gates_row probs_row idx_row)
open Cert.RowTop

variable (x0 : FVec Ideal S1024x768x7x7 .f32) (x1 : FVec Ideal S1024x768 .f32) (x2 : FVec Ideal S1536x4096 .f32)
    (x3 : FVec Ideal S4096 .f32) (x4 : FVec Ideal S4096x16 .f32)

/-- The gates agree. -/
theorem gates (hr : ∀ i, IsReal (logitsOf x0 x1 x2 x3 x4 i)) :
    gatesOf (F := Ideal) (logitsOf x0 x1 x2 x3 x4) = val_main_v57 (F := Ideal) x0 x1 x2 x3 x4 := by
  have hl := logits_eq x0 x1 x2 x3 x4
  generalize logitsOf x0 x1 x2 x3 x4 = l at hr hl ⊢
  funext y
  rw [ValueIdx.eq_ix2 y]
  obtain ⟨i, hi⟩ := exists_top (rowOf l (y 0))
  obtain ⟨j, hj⟩ := exists_second (rowOf l (y 0)) i
  exact (gates_row l (y 0) i j hi hj (hr _).ne_bot (y 1)).trans
    (gates_ref x0 x1 x2 x3 x4 l hl (y 0) i j hi hj (hr _).ne_top (hr _).ne_bot (y 1)).symm

/-- The probabilities agree. -/
theorem probs : Cert.KernelIdeal.Gen.k1_pay11 (F := Ideal) (logitsOf x0 x1 x2 x3 x4)
    = val_main_v26 (F := Ideal) x0 x1 x2 x3 x4 := by
  have hl := logits_eq x0 x1 x2 x3 x4
  generalize logitsOf x0 x1 x2 x3 x4 = l at hl ⊢
  funext y
  rw [ValueIdx.eq_ix2 y]
  obtain ⟨i, hi⟩ := exists_top (rowOf l (y 0))
  exact (probs_row l (y 0) i hi (y 1)).trans (probs_ref x0 x1 x2 x3 x4 l hl (y 0) i hi (y 1)).symm

/-- The chosen columns agree. -/
theorem columns (hr : ∀ i, IsReal (logitsOf x0 x1 x2 x3 x4 i)) :
    idxOf (F := Ideal) (logitsOf x0 x1 x2 x3 x4) = val_main_v28 (F := Ideal) x0 x1 x2 x3 x4 := by
  have hl := logits_eq x0 x1 x2 x3 x4
  generalize logitsOf x0 x1 x2 x3 x4 = l at hr hl ⊢
  funext y
  rw [ValueIdx.eq_ix2 y]
  obtain ⟨i, hi⟩ := exists_top (rowOf l (y 0))
  obtain ⟨j, hj⟩ := exists_second (rowOf l (y 0)) i
  exact (idx_row l (y 0) i j hi hj (hr _).ne_bot (y 1)).trans
    (two_columns x0 x1 x2 x3 x4 l hl (y 0) i j hi hj (y 1)).symm

end Cert.Agree

end
-- ==== Proof.lean ====
/- The claims. The kernel's runs, at bits and on extended reals, come from its two regions; the idealized constant is one
   forty-ninth; and the runs' results agree because both sides compute the same logits and select from them alike. -/
module

public import proofs.«01_k».proof.Defs
public import proofs.«01_k».proof.Proof.BitsRun
public import proofs.«01_k».proof.Proof.Agree
public import proofs.«01_k».proof.Proof.Gen.Pre_finite
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The kernel at bits runs, keeps its arguments and leaves every semaphore at zero. -/
theorem frame_kernel : Cert.quiescent_Kernel := fun m g _ =>
  (θ_run Cert.Kernel.defs _ _).mono (fun _ h => ⟨fun c => (h.1 c).1, h.2⟩) (Cert.Kernel.Moe.run m g)

/-- The idealized kernel runs, keeps its arguments and leaves every semaphore at zero. -/
theorem frame_ideal : Cert.quiescent_KernelIdeal := fun m g _ =>
  (θ_run Cert.KernelIdeal.defs _ _).mono (fun _ h => ⟨fun c => (h.1 c).1, h.2⟩) (Cert.KernelIdeal.Moe.run m g)

/-- The reference runs, keeps its arguments and leaves every semaphore at zero. -/
theorem frame_reference : Cert.quiescent_ReferenceIdeal := fun m g _ =>
  (θ_run Cert.ReferenceIdeal.defs _ _).mono
    (fun r h => ⟨fun c => (h c).2.2.2.2, sem_eq_zero_of_no_sems (by decide) r.2⟩)
    (Cert.ReferenceIdeal.Value.run m g)

/-- The one constant made exact is one forty-ninth. -/
theorem preserves : Cert.preserves_Kernel_KernelIdeal :=
  IdealRules.named_const.statement Cert.KernelIdeal.κ "inv49" .f32 0x3CA72F05#32 _ rfl

/-- From equal arguments with real entries the idealized kernel and the reference leave equal results. -/
theorem agree : Cert.algebraic_KernelIdeal_ReferenceIdeal_pre_finite := by
  intro m g m' g' hpre hargs
  have hr := fun c => Cert.KernelIdeal.Moe.real_args _ _ _ _ _ (hpre c)
  refine ⟨fun c => Cert.KernelIdeal.Moe.final m c Cert.KernelIdeal.main_v4_0,
    fun c => Cert.KernelIdeal.Moe.final m c Cert.KernelIdeal.main_cst,
    fun c => Cert.KernelIdeal.Moe.final m c Cert.KernelIdeal.main_v4_1,
    fun c => Cert.KernelIdeal.Moe.final m c Cert.KernelIdeal.main_v4_2, ?_, ?_⟩
  · exact (θ_run Cert.KernelIdeal.defs _ _).mono
      (fun _ h c => ⟨(h.1 c).2.1, (h.1 c).2.2.1, (h.1 c).2.2.2.1, (h.1 c).2.2.2.2, (h.1 c).1⟩) (Cert.KernelIdeal.Moe.run m g)
  · refine (θ_run Cert.ReferenceIdeal.defs _ _).mono (fun _ h c => ?_) (Cert.ReferenceIdeal.Value.run m' g')
    obtain ⟨h0, h1, h2, h3, ha⟩ := h c
    obtain ⟨e0, e1, e2, e3, e4⟩ := hargs c
    have hl := Cert.KernelIdeal.Moe.real_logits _ _ _ _ _ (hr c).1 (hr c).2.1 (hr c).2.2.1 (hr c).2.2.2.1 (hr c).2.2.2.2
    refine ⟨h0.trans ?_, h1.trans ?_, h2.trans ?_, h3.trans ?_, ha⟩
    · rw [Cert.ReferenceIdeal.Read.val_main_v57_eq, e0, e1, e2, e3, e4]
      exact ((Cert.KernelIdeal.Moe.final_gates m c).trans (Cert.Agree.gates _ _ _ _ _ hl)).symm
    · exact (Cert.KernelIdeal.Moe.final_cst m c).symm
    · rw [Cert.ReferenceIdeal.Read.val_main_v26_eq, e0, e1, e2, e3, e4]
      exact ((Cert.KernelIdeal.Moe.final_probs m c).trans (Cert.Agree.probs _ _ _ _ _)).symm
    · rw [Cert.ReferenceIdeal.Read.val_main_v28_eq, e0, e1, e2, e3, e4]
      exact ((Cert.KernelIdeal.Moe.final_idx m c).trans (Cert.Agree.columns _ _ _ _ _ hl)).symm

/-- All the claims. -/
theorem claim : Cert.Claim :=
  ⟨Cert.Kernel.Gen.facts, Cert.KernelIdeal.Gen.facts, Cert.ReferenceIdeal.Gen.facts, Cert.Pre_finite.Gen.facts,
    frame_kernel, frame_ideal, fun m g _ => frame_ideal m g trivial, frame_reference, fun m g _ => frame_reference m g trivial,
    preserves, agree⟩

end Cert.Proof

end
